-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S2x1024x1024 : Shape := ⟨3, ![2, 1024, 1024]⟩
abbrev S4 : Shape := ⟨1, ![4]⟩
abbrev S_ : Shape := ⟨0, ![]⟩
abbrev S256x4096 : Shape := ⟨2, ![256, 4096]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x4096, .bf16⟩
  | .local _ .vmem, ⟨4, _⟩ => ⟨S2x1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v31 : BitVec 32 := Scalar.muli v2 c4_i32_25
  let v32 : BitVec 32 := Scalar.addi c0_i32_26 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v33 : BitVec 32 := Scalar.muli v5 c2_i32_27
  let v34 : BitVec 32 := Scalar.addi v32 v33
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_28 : BitVec 32 := 1#32
  let v35 : BitVec 32 := Scalar.muli v9 c1_i32_28
  let v36 : BitVec 32 := Scalar.addi v34 v35
  v36.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v54 : BitVec 32 := Scalar.muli v2 c4_i32_46
  let v55 : BitVec 32 := Scalar.addi c0_i32_47 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v56 : BitVec 32 := Scalar.muli v5 c2_i32_48
  let v57 : BitVec 32 := Scalar.addi v55 v56
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_49 : BitVec 32 := 1#32
  let v58 : BitVec 32 := Scalar.muli v9 c1_i32_49
  let v59 : BitVec 32 := Scalar.addi v57 v58
  v59.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v77 : BitVec 32 := Scalar.muli v2 c4_i32_66
  let v78 : BitVec 32 := Scalar.addi c0_i32_67 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v79 : BitVec 32 := Scalar.muli v5 c2_i32_68
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_69 : BitVec 32 := 1#32
  let v81 : BitVec 32 := Scalar.muli v9 c1_i32_69
  let v82 : BitVec 32 := Scalar.addi v80 v81
  v82.toNat
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v100 : BitVec 32 := Scalar.muli v2 c4_i32_85
  let v101 : BitVec 32 := Scalar.addi c0_i32_86 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v102 : BitVec 32 := Scalar.muli v5 c2_i32_87
  let v103 : BitVec 32 := Scalar.addi v101 v102
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v104 : BitVec 32 := Scalar.muli v9 c1_i32_88
  let v105 : BitVec 32 := Scalar.addi v103 v104
  v105.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Pieces.lean ====
/-
# The kernel's text, stated once for every row chunk

The kernel works on four chunks of 256 rows. The printed text repeats the same statements for each chunk at literal
offsets; here they are two programs over the chunk number, `sendChunk` (multiply, keep, narrow, send) and `recvChunk`
(wait, add, wait for the own transfer), and `body_eq` says that the printed body is the entry handshake, the copy of
the weights and the four chunks of each.
-/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic
open Idealize.SL.Sem

variable {F : FTy → Type} [FloatOps F]

/-! ## The other device of the pair -/

/-- The device with the same first two mesh coordinates and the other third one. -/
def peer (c : Dev nD) : Dev nD := ⟨(4 * (c.val / 4) + 2 * ((c.val / 2) % 2) + 1) - c.val % 2, by
  have h : c.val < 8 := c.isLt
  show _ < 8
  omega⟩

/-- Crossing over twice returns. -/
theorem peer_peer (c : Dev nD) : peer (peer c) = c := by revert c; decide
/-- The two devices of a pair differ. -/
theorem peer_ne (c : Dev nD) : peer c ≠ c := by revert c; decide

/-- Crossing over, as a permutation of the devices. -/
def cross : Dev nD ≃ Dev nD := ⟨peer, peer, peer_peer, peer_peer⟩

/-! ## Buffers, chunks, semaphores -/

/-- The staged block of `dy`. -/
abbrev xM : Memref sig .tc .vmem S1024x4096 .bf16 := Memref.whole cc0_stg0_0
/-- The staged block of the weights. -/
abbrev wM : Memref sig .tc .vmem S1024x4096 .bf16 := Memref.whole cc0_stg1_0
/-- The staged result. -/
abbrev oM : Memref sig .tc .vmem S1024x1024 .f32 := Memref.whole cc0_stg2_0
/-- The working copy of the weights. -/
abbrev bM : Memref sig .tc .vmem S1024x4096 .bf16 := Memref.whole cc0_scratch0
/-- The transfer buffer: slot 0 is sent from, slot 1 is received into. -/
abbrev cM : Memref sig .tc .vmem S2x1024x1024 .bf16 := Memref.whole cc0_scratch1

/-- The rows of a chunk lie inside the block of `dy`. -/
theorem inbX : ∀ (k : Fin 4) a, (![256 * k.val, 0] : Fin 2 → Nat) a + S256x4096.size a ≤ S1024x4096.size a := by decide
/-- The rows of a chunk lie inside the result. -/
theorem inbO : ∀ (k : Fin 4) a, (![256 * k.val, 0] : Fin 2 → Nat) a + S256x1024.size a ≤ S1024x1024.size a := by decide
/-- The rows of a chunk lie inside a slot of the transfer buffer. -/
theorem inbC : ∀ (s : Fin 2) (k : Fin 4) a,
    (![s.val, 256 * k.val, 0] : Fin 3 → Nat) a + S1x256x1024.size a ≤ S2x1024x1024.size a := by decide
/-- A chunk's semaphore is one of the four. -/
theorem inbS : ∀ (k : Fin 4) a, (![k.val] : Fin 1 → Nat) a + S1.size a ≤ S4.size a := by decide

/-- The rows of chunk `k` in the block of `dy`. -/
abbrev rX (k : Fin 4) : Rect S1024x4096 := Rect.unit (s := S1024x4096) ![256 * k.val, 0] S256x4096.size (inbX k)
/-- The whole block of weights. -/
abbrev rW : Rect S1024x4096 := Rect.unit (s := S1024x4096) ![0, 0] S1024x4096.size inb_S1024x4096_S1024x4096_0_0
/-- The rows of chunk `k` in the result. -/
abbrev rO (k : Fin 4) : Rect S1024x1024 := Rect.unit (s := S1024x1024) ![256 * k.val, 0] S256x1024.size (inbO k)
/-- The rows of chunk `k` in slot `s` of the transfer buffer. -/
abbrev rC (s : Fin 2) (k : Fin 4) : Rect S2x1024x1024 :=
  Rect.unit (s := S2x1024x1024) ![s.val, 256 * k.val, 0] S1x256x1024.size (inbC s k)

/-- A chunk of the transfer buffer holds its packed rows whole. -/
theorem packedC : ∀ (s : Fin 2) (k : Fin 4), (rC s k).PackedRows (EltTy.packing .bf16) := by decide
/-- A chunk of the transfer buffer holds its words whole. -/
theorem wordsC : ∀ (s : Fin 2) (k : Fin 4), (rC s k).WholeWords (EltTy.packing .bf16) := by decide

/-- Chunk `k` of slot `s`, as a matrix. -/
abbrev cP (s : Fin 2) (k : Fin 4) : Memref sig .tc .vmem S256x1024 .bf16 :=
  (cM.slice (rC s k) (fun _ => rfl)).squeeze S256x1024 squeezes_S1x256x1024_S256x1024

/-- So does the chunk seen as a matrix. -/
theorem exactP (s : Fin 2) (k : Fin 4) : (cP s k).view.WordExact :=
  ((Memref.isWhole_whole cc0_scratch1).wordExact_slice rfl _ (wordsC s k)).reshape _ _

/-- The semaphore that says chunk `k` has left. -/
abbrev sendS (k : Fin 4) : DmaSem sig :=
  ((cc0_scratch2.slice (Rect.unit (s := S4) ![k.val] S1.size (inbS k))).squeeze S_ squeezes_S1_S_).sem
/-- The semaphore that says chunk `k` has arrived. -/
abbrev recvS (k : Fin 4) : DmaSem sig :=
  ((cc0_scratch3.slice (Rect.unit (s := S4) ![k.val] S1.size (inbS k))).squeeze S_ squeezes_S1_S_).sem
/-- The barrier semaphore of the entry handshake. -/
abbrev barS : Sem sig := (SemArray.scalar (sig.barrier 0 rfl) : Sems sig S_).sem

/-! ## The chunk programs -/

/-- Chunk `k` of the first loop: multiply the rows of `dy` by the weights, store the product, narrow it into slot 0 and
    start its transfer to slot 1 of device `n`. -/
def sendChunk (n : Dev nD) (k : Fin 4) : Prog (TpuEff nD τ sig (Elt F) Λ₀ .tc) PUnit := do
  let x : Vec F S256x4096 .bf16 ← Prog.lift (.load xM (rX k).toLoadRect (View.loadsAt_vmem h_S256x4096))
  let w : Vec F S1024x4096 .bf16 ← Prog.lift (.load bM rW.toLoadRect (View.loadsAt_vmem h_S1024x4096))
  let _ : Vec F S256x1024 .f32 ← Prog.lift (.load oM (rO k).toLoadRect (View.loadsAt_vmem h_S256x1024))
  Prog.lift (.store oM (rO k) (k0_pay3 x w) Finset.univ (View.stores_vmem_bits_univ h_S256x1024 rfl) (.inl rfl))
  let _ : Vec F S1x256x1024 .bf16 ← Prog.lift (.load cM (rC 0 k).toLoadRect (View.loadsAt_vmem h_S1x256x1024))
  Prog.lift (.store cM (rC 0 k) (k0_pay5 (k0_pay4 x w)) Finset.univ
    (View.stores_vmem h_S1x256x1024 ((Memref.isWhole_whole cc0_scratch1).storeExact_slice rfl _ (packedC 0 k)) (fun _ => rfl)) (.inl rfl))
  Prog.lift (.enqueueDma (cP 0 k) (.remote (Dev.tc n) (cP 1 k) (.dma (sendS k))) (.dma (recvS k)) (exactP 0 k) (exactP 1 k)
    ⟨⟨rfl, Or.inl rfl⟩, trivial⟩)

/-- Chunk `k` of the second loop: wait for the other device's product in slot 1, add it to the stored one, and wait for
    the own transfer. -/
def recvChunk (k : Fin 4) : Prog (TpuEff nD τ sig (Elt F) Λ₀ .tc) PUnit := do
  Prog.lift (.waitDma2 (recvS k) (cP 0 k) (cP 1 k) (exactP 0 k) (exactP 1 k))
  let a : Vec F S256x1024 .f32 ← Prog.lift (.load oM (rO k).toLoadRect (View.loadsAt_vmem h_S256x1024))
  let b : Vec F S1x256x1024 .bf16 ← Prog.lift (.load cM (rC 1 k).toLoadRect (View.loadsAt_vmem h_S1x256x1024))
  let _ : Vec F S256x1024 .f32 ← Prog.lift (.load oM (rO k).toLoadRect (View.loadsAt_vmem h_S256x1024))
  Prog.lift (.store oM (rO k) (k0_pay1 a b) Finset.univ (View.stores_vmem_bits_univ h_S256x1024 rfl) (.inl rfl))
  Prog.lift (.waitDma2 (sendS k) (cP 1 k) (cP 0 k) (exactP 1 k) (exactP 0 k))

/-- The copy of the weights. -/
def copyW : Prog (TpuEff nD τ sig (Elt F) Λ₀ .tc) PUnit := do
  let w : Vec F S1024x4096 .bf16 ← Prog.lift (.load wM rW.toLoadRect (View.loadsAt_vmem h_S1024x4096))
  let _ : Vec F S1024x4096 .bf16 ← Prog.lift (.load bM rW.toLoadRect (View.loadsAt_vmem h_S1024x4096))
  Prog.lift (.store bM rW (k0_pay2 w) Finset.univ
    (View.stores_vmem h_S1024x4096 ((Memref.isWhole_whole cc0_scratch0).storeExact_slice rfl _ packedbf16_S1024x4096_S1024x4096_0_0) (fun _ => rfl)) (.inl rfl))

/-- The whole body over the chunk programs. -/
def chunked : Prog (TpuEff nD τ sig (Elt F) Λ₀ .tc) PUnit := do
  let d ← Prog.lift .deviceId
  semSignalWord (⟨k0_dev1 d, k0_dev1_lt d⟩ : Dev nD) barS 1#32
  semWaitWord barS 1#32
  copyW
  sendChunk ⟨k0_dev2 d, k0_dev2_lt d⟩ 0
  sendChunk ⟨k0_dev3 d, k0_dev3_lt d⟩ 1
  sendChunk ⟨k0_dev4 d, k0_dev4_lt d⟩ 2
  sendChunk ⟨k0_dev5 d, k0_dev5_lt d⟩ 3
  recvChunk 0
  recvChunk 1
  recvChunk 2
  recvChunk 3

set_option maxRecDepth 65536 in
set_option maxHeartbeats 4000000 in
/-- The printed body at the launch's buffers is the chunk programs in sequence. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3 = chunked := by
  rfl

end Cert.Exchange

end
-- ==== Proof.Schedule.lean ====
/-
# The exchange as a schedule of payments

Each device has nine semaphores that matter: the barrier of the entry handshake and, for each of the four chunks, one
that says the chunk has left and one that says the other device's chunk has arrived. Each is paid once. What a payment
carries is part of the transfer buffer:

* the barrier of `c` is paid by its peer, with the peer's slot 1 (the chunks `c` will write);
* the arrival of chunk `k` at `c` is paid by the peer's transfer, with chunk `k` of `c`'s slot 1 holding the peer's
  narrowed product;
* the departure of chunk `k` from `c` gives back chunk `k` of `c`'s slot 0.
-/
module

public import proofs.«01_k».proof.Proof.Pieces
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange's share of the user resources: one duty for each semaphore. -/
abbrev UB : Type := URounds (GSem nD τ sig) Unit
/-- The user resources: the staging pipeline's and the exchange's. -/
abbrev UU : Type := UR sig nD τ × UB

local notation "𝕄" => MT nD τ sig Unit (Elt F) ℕ UU ℕ

/-- The staging pipeline's part of the resources. -/
abbrev EP : Emb (UR sig nD τ) (MT nD τ sig Unit (Elt F) ℕ UU ℕ) := embL
/-- The exchange's part of the resources. -/
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The semaphores of one device -/

/-- A device's semaphores: the barrier, then the departures and the arrivals of the four chunks. -/
abbrev Cell : Type := Unit ⊕ (Fin 4 ⊕ Fin 4)

/-- The departure and arrival semaphores, which the kernel declares itself. -/
abbrev osem : Fin 4 ⊕ Fin 4 → SemLoc sig
  | .inl k => .dma (sendS k)
  | .inr k => .dma (recvS k)
/-- All nine. -/
abbrev csem : Cell → SemLoc sig
  | .inl _ => .reg barS
  | .inr j => osem j
/-- A device's semaphore among all devices' semaphores. -/
abbrev kcell (x : Dev nD × Cell) : GSem nD τ sig := ((x.1 : Thread nD τ), csem x.2)

/-- The barrier. -/
abbrev cBar : Cell := .inl ()
/-- The departure of chunk `k`. -/
abbrev cSend (k : Fin 4) : Cell := .inr (.inl k)
/-- The arrival of chunk `k`. -/
abbrev cRecv (k : Fin 4) : Cell := .inr (.inr k)

/-- The barrier of device `c`. -/
abbrev barCell (c : Dev nD) : GSem nD τ sig := kcell (c, cBar)
/-- The departure of chunk `k` from device `c`. -/
abbrev sendCell (c : Dev nD) (k : Fin 4) : GSem nD τ sig := kcell (c, cSend k)
/-- The arrival of chunk `k` at device `c`. -/
abbrev recvCell (c : Dev nD) (k : Fin 4) : GSem nD τ sig := kcell (c, cRecv k)

/-- The nine semaphores of a device are different. -/
theorem csem_injective : Function.Injective csem := by
  intro a b; revert a b; decide

/-- The semaphores of all devices are different. -/
theorem kcell_injective : Function.Injective kcell := by
  rintro ⟨c, j⟩ ⟨c', j'⟩ h
  have hc : c = c' := congrArg (fun g : GSem nD τ sig => g.1.1) h
  have hj : j = j' := csem_injective (congrArg Prod.snd h)
  rw [hc, hj]

/-- Which of the nine a semaphore is, if any. -/
def role : SemLoc sig → Option Cell := Function.partialInv csem

/-- The role of a semaphore of the exchange. -/
theorem role_csem (j : Cell) : role (csem j) = some j := Function.partialInv_left csem_injective j

/-! ## What the chunks hold -/

/-- The block of `dy` staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The block of weights staged on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The rows of chunk `k` of the block of `dy`. -/
def xrows (c : Dev nD) (k : Fin 4) : Vec F S256x4096 .bf16 := (xM.access (rX k)).read (Elt F) (xstg m ρ c)
/-- The weights as the working copy holds them. -/
def wcopy (c : Dev nD) : Vec F S1024x4096 .bf16 := k0_pay2 (wstg m ρ c)
/-- Device `c`'s product for chunk `k`. -/
def prod (c : Dev nD) (k : Fin 4) : Vec F S256x1024 .f32 := k0_pay3 (xrows m ρ c k) (wcopy m ρ c)
/-- That product narrowed for the transfer. -/
def narrow (c : Dev nD) (k : Fin 4) : Vec F S1x256x1024 .bf16 := k0_pay5 (k0_pay4 (xrows m ρ c k) (wcopy m ρ c))
/-- The sum for chunk `k`: the own product and the widened narrowed product of the peer. -/
def total (c : Dev nD) (k : Fin 4) : Vec F S256x1024 .f32 := k0_pay1 (prod m ρ c k) (narrow m ρ (peer c) k)

/-- Chunk `k` of slot `s` of device `c`'s transfer buffer, holding `X`. -/
abbrev piece (c : Dev nD) (s : Fin 2) (k : Fin 4) (X : Vec F S1x256x1024 .bf16) : sProp 𝕄 :=
  owns (c : Thread nD τ) (cM.slice (rC s k) (fun _ => rfl)) fullShare X
/-- Chunk `k` of device `c`'s result, holding `X`. -/
abbrev strip (c : Dev nD) (k : Fin 4) (X : Vec F S256x1024 .f32) : sProp 𝕄 :=
  owns (c : Thread nD τ) (oM.slice (rO k) (fun _ => rfl)) fullShare X

/-! ## The schedule -/

/-- The credit of one chunk's transfer. -/
abbrev N : ℕ := (cP 1 0).view.dmaCredit
/-- A chunk is worth something. -/
theorem N_pos : 0 < N := View.dmaCredit_pos _ (by decide)
/-- Every chunk's transfer has the same credit. -/
theorem credit_eq (s : Fin 2) (k : Fin 4) : (cP s k).view.dmaCredit = N := by revert s k; decide

/-- What a payment to each semaphore of device `c` carries. -/
def pay (c : Dev nD) : Cell → sProp 𝕄
  | .inl _ => bigSep Finset.univ fun k : Fin 4 =>
      iprop((∃ X, piece (F := F) (peer c) 1 k X) ∗ reached ER (recvCell (peer c) k) 0)
  | .inr (.inl k) => piece c 0 k (narrow m ρ c k)
  | .inr (.inr k) => piece c 1 k (narrow m ρ (peer c) k)

/-- What a payment carries may be kept in an invariant. -/
instance pay_storable (c : Dev nD) (j : Cell) : BI.Storable (upEmb : UEmb _ 𝕄) (pay (F := F) m ρ c j) := by
  rcases j with _ | k | k <;> (unfold pay; infer_instance)

/-- The amount of a payment: one unit to a barrier, a transfer's credit to the others. -/
def amt : Cell → ℕ
  | .inl _ => 1
  | .inr _ => N

/-- Every payment is worth something. -/
theorem amt_pos (j : Cell) : 0 < amt j := by
  rcases j with _ | j
  · exact Nat.one_pos
  · exact N_pos

/-- One payment to each of the nine semaphores of each device, and no more. -/
def Rd : Rounds.Schedule (GSem nD τ sig) Unit 𝕄 where
  duties g r := if r = 0 ∧ g.1.2 = .tc ∧ (role g.2).isSome then {()} else ∅
  unitless _ := False
  amount g _ _ := ((role g.2).map amt).getD 1
  payload g _ _ := ((role g.2).map (pay m ρ g.1.1)).getD iprop(emp)
  amount_pos g _ _ _ := by
    cases h : role g.2 with
    | none => exact Nat.one_pos
    | some j => exact amt_pos j

/-- What any payment of the schedule carries may be kept in an invariant. -/
instance Rd_payload_storable (g : GSem nD τ sig) (r : ℕ) (d : Unit) :
    BI.Storable (upEmb : UEmb _ 𝕄) ((Rd (F := F) m ρ).payload g r d) := by
  show BI.Storable upEmb (((role g.2).map (pay m ρ g.1.1)).getD iprop(emp))
  cases role g.2 with
  | none => show BI.Storable (upEmb : UEmb _ 𝕄) iprop(emp); infer_instance
  | some j => exact pay_storable m ρ g.1.1 j

section Facts
variable (c : Dev nD) (j : Cell)

/-- Each of the nine has its one duty, -/
theorem duties_cell : (Rd (F := F) m ρ).duties (kcell (c, j)) 0 = {()} := by
  dsimp only [Rd]; rw [role_csem]; exact if_pos ⟨rfl, rfl, rfl⟩
/-- no later one, -/
theorem duties_later (g : GSem nD τ sig) : ∀ r, 1 ≤ r → (Rd (F := F) m ρ).duties g r = ∅ :=
  fun r hr => if_neg fun h => by have := h.1; omega
/-- its amount, -/
theorem amount_cell (d : Unit) : (Rd (F := F) m ρ).amount (kcell (c, j)) 0 d = amt j := by
  dsimp only [Rd]; rw [role_csem]; rfl
/-- its payload. -/
theorem payload_cell (d : Unit) : (Rd (F := F) m ρ).payload (kcell (c, j)) 0 d = pay m ρ c j := by
  dsimp only [Rd]; rw [role_csem]; rfl
/-- Each semaphore has its one payment in the first round. -/
theorem mem_duties_cell : () ∈ (Rd (F := F) m ρ).duties (kcell (c, j)) 0 := by
  rw [duties_cell]; exact Finset.mem_singleton_self _
/-- The round is complete with that payment, -/
theorem expect_cell : (Rd (F := F) m ρ).expect (kcell (c, j)) 0 = amt j := by
  unfold Schedule.expect Schedule.amountOf; rw [duties_cell, Finset.sum_singleton, amount_cell]
/-- and what a wait for it all receives is that payload. -/
theorem rest_cell : bigSep ((Rd (F := F) m ρ).duties (kcell (c, j)) 0 \ ∅) (fun d => (Rd (F := F) m ρ).payload (kcell (c, j)) 0 d)
    = pay m ρ c j := by
  rw [Finset.sdiff_empty, duties_cell, bigSep_singleton, payload_cell]

end Facts

/-! ## What each device owes, and the order of waiting -/

/-- What device `c` owes the arrivals at its peer from chunk `k` on. -/
def owedRecv (c : Dev nD) : ℕ → CellTallies nD τ sig Unit
  | 0 => 0
  | n + 1 => owedRecv c n + tallyAt (recvCell (peer c) (Fin.rev (Fin.ofNat 4 n))) () N

/-- At launch a device owes its peer the four arrivals and the barrier's unit. -/
def O₀ (c : Dev nD) : CellTallies nD τ sig Unit := owedRecv c 4 + tallyAt (barCell (peer c)) () 1

/-- Every semaphore of a tensor core is watched. -/
def L (g : GSem nD τ sig) : Finset Unit := if g.1.2 = .tc then {()} else ∅
/-- The barrier is below the arrivals, everything else below the barrier. -/
def lv (g : GSem nD τ sig) (_ : Unit) : ℕ :=
  match role g.2 with
  | some (.inl _) => 1
  | some (.inr (.inr _)) => 2
  | _ => 0

/-- Only the TensorCores wait. -/
theorem L_of_ne (g : GSem nD τ sig) (h : g.1.2 ≠ .tc) : L g = ∅ := if_neg h
/-- Every semaphore of a TensorCore has a level. -/
theorem L_tc (c : Dev nD) (sm : SemLoc sig) : L ((c : Thread nD τ), sm) = {()} := if_pos rfl
/-- The barrier's level is 1. -/
theorem lv_bar (c : Dev nD) : lv (barCell c) () = 1 := by
  unfold lv; rw [show role (barCell c).2 = some cBar from role_csem cBar]
/-- An arrival's level is 2. -/
theorem lv_recv (c : Dev nD) (k : Fin 4) : lv (recvCell c k) () = 2 := by
  unfold lv; rw [show role (recvCell c k).2 = some (cRecv k) from role_csem (cRecv k)]

/-- A tally at one semaphore is positive only there. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- What is owed to arrivals is owed to the peer's arrivals. -/
theorem owedRecv_pos {c : Dev nD} {g : GSem nD τ sig} {u : Unit} : ∀ n, 0 < owedRecv c n g u → ∃ k, g = recvCell (peer c) k
  | 0, h => absurd h (Nat.lt_irrefl 0)
  | n + 1, h => by
    unfold owedRecv at h
    rw [Pi.add_apply, Finsupp.add_apply] at h
    rcases Nat.eq_zero_or_pos (owedRecv c n g u) with h0 | h0
    · rw [h0, Nat.zero_add] at h; exact ⟨_, tallyAt_pos h⟩
    · exact owedRecv_pos n h0

/-- What is owed at launch is owed to the peer's arrivals or its barrier. -/
theorem O₀_pos {c : Dev nD} {g : GSem nD τ sig} {u : Unit} (h : 0 < O₀ c g u) :
    (∃ k, g = recvCell (peer c) k) ∨ g = barCell (peer c) := by
  unfold O₀ at h
  rw [Pi.add_apply, Finsupp.add_apply] at h
  rcases Nat.eq_zero_or_pos (owedRecv c 4 g u) with h0 | h0
  · rw [h0, Nat.zero_add] at h; exact .inr (tallyAt_pos h)
  · exact .inl (owedRecv_pos 4 h0)

/-- A staging semaphore may be waited for whatever is owed at launch, and when nothing is. -/
theorem mayWait_stage (c : Dev nD) (q : DmaSem sig) (hq : ∀ j : Cell, csem j ≠ .dma q) (O : CellTallies nD τ sig Unit)
    (hO : O = O₀ c ∨ O = 0) : (levAts L lv : sProp 𝕄) ⊢ MayWait (c : Thread nD τ) (.dma q) () O := by
  have hr : role (.dma q) = none := by
    unfold role Function.partialInv
    exact dif_neg fun ⟨j, h⟩ => hq j h
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; unfold lv; rw [hr])
      (fun g u hg => by
        rcases O₀_pos hg with ⟨k, rfl⟩ | rfl
        · rw [lv_recv]; decide
        · rw [lv_bar]; decide)
  · rw [MayWait_zero]; iintro -; iempintro

/-- The barrier may be waited for while the peer's arrivals are owed. -/
theorem mayWait_bar (c : Dev nD) : (levAts L lv : sProp 𝕄) ⊢ MayWait (c : Thread nD τ) (.reg barS) () (owedRecv c 4) :=
  MayOwe.of_cut (L := L) (lev := lv) 1 (fun p hp => by rw [Finset.mem_singleton.mp hp, L_tc]; exact Finset.mem_singleton_self _)
    (fun g u hg => by obtain ⟨k, rfl⟩ := owedRecv_pos 4 hg; exact Finset.mem_singleton_self _)
    (fun p hp => by rw [Finset.mem_singleton.mp hp, show ((c : Thread nD τ), SemLoc.reg barS) = barCell c from rfl, lv_bar])
    (fun g u hg => by obtain ⟨k, rfl⟩ := owedRecv_pos 4 hg; rw [lv_recv]; decide)

end Cert.Exchange

end
-- ==== Proof.Product.lean ====
/-
# What one chunk computes

Over the extended reals a device's product for a chunk is, at each row and column, the sum over the 4096 columns of its
blocks; narrowing it changes nothing; and the sum for the chunk is the own product plus the peer's.
-/
module

public import proofs.«01_k».proof.Proof.Schedule
public import Idealize.ShloMosaic.Lib.Pipeline.ValueKit
public import Idealize.ShloMosaic.Lib.MatmulPlain

@[expose] public section

set_option maxRecDepth 16384

noncomputable section

namespace Cert.Exchange

open Cert.KernelIdeal Cert.KernelIdeal.Gen
open Idealize.ShloMosaic hiding ix2
open Idealize.ShloMosaic.TcCoe Idealize.ShloMosaic.ValueIdx
open scoped BigOperators

/-- The product of two blocks, at row `a` of the first and row `b` of the second. -/
theorem pay3_apply (v : FVec Ideal S256x4096 .bf16) (w : FVec Ideal S1024x4096 .bf16) (a : Fin 256) (b : Fin 1024) :
    k0_pay3 (F := Ideal) v w (ix2 a b) = ∑ q : Fin 4096, v (ix2 a q) * w (ix2 b q) := by
  have h := Ideal.matmul_transposedRhs_apply (M := 256) (K := 4096) (N := 1024) none v w (constant S256x1024 .f32 0x00000000#32) a b
  have hz : (constant S256x1024 .f32 0x00000000#32 : FVec Ideal S256x1024 .f32) (ix2 a b) = 0 := by
    show Ideal.ofBits .f32 0x00000000#32 = 0
    simp [Ideal.ofBits, Ideal.ieee]
  unfold k0_pay3
  rw [shapeCast_self]
  rw [hz, zero_add] at h
  exact h

/-- The narrowed product is the product, under a leading unit axis. -/
theorem pay5_apply (v : FVec Ideal S256x4096 .bf16) (w : FVec Ideal S1024x4096 .bf16) (j : S1x256x1024.Idx) :
    (k0_pay5 (F := Ideal) (k0_pay4 v w) j : EReal) = (k0_pay3 (F := Ideal) v w (fun a : Fin 2 => j a.succ) : EReal) := by
  unfold k0_pay5 k0_pay4
  exact shapeCast_addUnit_apply ![256, 1024] _ _ j

/-- The sum of a stored product and a received one. -/
theorem pay1_apply (u : FVec Ideal S256x1024 .f32) (v : FVec Ideal S1x256x1024 .bf16) (j : S256x1024.Idx) :
    (k0_pay1 (F := Ideal) u v j : EReal) = (u j : EReal) + (v (Fin.cons (⟨0, Nat.one_pos⟩ : Fin 1) j) : EReal) := by
  unfold k0_pay1
  rw [shapeCast_self]
  show u j + shapeCast S256x1024 v shapeCasts_S1x256x1024_S256x1024 j = _
  exact congrArg (u j + ·) (shapeCast_dropUnit_apply ![256, 1024] v _ j)

variable (m : (ℓ : Loc nD τ sig) → Buf (Elt Ideal) ℓ) (ρ : Dev nD → PrngReg)

/-- Device `c`'s block of `dy`. -/
abbrev dyAt (c : Dev nD) : FVec Ideal S1024x4096 .bf16 := m ((c : Thread nD τ).loc main_arg0)
/-- Device `c`'s block of the weights. -/
abbrev wAt (c : Dev nD) : FVec Ideal S1024x4096 .bf16 := m ((c : Thread nD τ).loc main_arg1)

/-- The staged block of `dy` is the block. -/
theorem xstg_apply (c : Dev nD) (i : S1024x4096.Idx) : xstg m ρ c i = dyAt m c i := by
  have e : ∀ d, win0_0.index (0 : Fin 1) d = 0 := by decide
  have h : (win0_0.blk (0 : Fin 1)).view.emb i = i := funext fun d => Fin.ext (by
    fin_cases d <;> blk_simp <;> exact (congrArg (· * _ + _) (e _)).trans (by rw [Nat.zero_mul, Nat.zero_add]))
  show dyAt m c ((win0_0.blk (0 : Fin 1)).view.emb i) = _
  rw [h]
/-- The staged weights are the weights. -/
theorem wstg_apply (c : Dev nD) (i : S1024x4096.Idx) : wstg m ρ c i = wAt m c i := by
  have e : ∀ d, win0_1.index (0 : Fin 1) d = 0 := by decide
  have h : (win0_1.blk (0 : Fin 1)).view.emb i = i := funext fun d => Fin.ext (by
    fin_cases d <;> blk_simp <;> exact (congrArg (· * _ + _) (e _)).trans (by rw [Nat.zero_mul, Nat.zero_add]))
  show wAt m c ((win0_1.blk (0 : Fin 1)).view.emb i) = _
  rw [h]

/-- Row `a` of chunk `k` is row `256 k + a`. -/
def rowOf (k : Fin 4) (a : Fin 256) : Fin 1024 := ⟨256 * k.val + a.val, by omega⟩

/-- A chunk of the staged `dy` at row `a` is the block at the chunk's row `a`. -/
theorem xrows_apply (c : Dev nD) (k : Fin 4) (a : Fin 256) (q : Fin 4096) :
    xrows m ρ c k (ix2 a q) = dyAt m c (ix2 (rowOf k a) q) := by
  have h : xrows m ρ c k (ix2 a q) = xstg m ρ c ((rX k).emb (ix2 a q)) := rfl
  rw [h, xstg_apply]
  congr 1
  funext d
  fin_cases d
  · exact Fin.ext (by show 256 * k.val + 1 * a.val = 256 * k.val + a.val; omega)
  · exact Fin.ext (by show 0 + 1 * q.val = q.val; omega)

/-- The copy of the weights is the weights. -/
theorem wcopy_apply (c : Dev nD) (i : S1024x4096.Idx) : wcopy m ρ c i = wAt m c i := by
  unfold wcopy k0_pay2
  rw [shapeCast_self, shapeCast_self, wstg_apply]

/-- The part of the result that device `c`'s blocks give, at row `i` and column `j`. -/
def half (c : Dev nD) (i j : Fin 1024) : EReal := ∑ q : Fin 4096, dyAt m c (ix2 i q) * wAt m c (ix2 j q)

/-- A chunk's product is that part, at the chunk's rows. -/
theorem prod_apply (c : Dev nD) (k : Fin 4) (a : Fin 256) (b : Fin 1024) : prod m ρ c k (ix2 a b) = half m c (rowOf k a) b := by
  unfold prod half
  rw [pay3_apply]
  exact Finset.sum_congr rfl fun q _ => by rw [xrows_apply, wcopy_apply]

/-- A chunk's sum is the own part plus the peer's. -/
theorem total_apply (c : Dev nD) (k : Fin 4) (a : Fin 256) (b : Fin 1024) :
    total m ρ c k (ix2 a b) = half m c (rowOf k a) b + half m (peer c) (rowOf k a) b := by
  unfold total narrow
  rw [pay1_apply, pay5_apply, ← prod_apply m ρ c, ← prod_apply m ρ (peer c)]
  rfl

end Cert.Exchange

end
-- ==== Proof.Chunk.lean ====
/-
# One chunk of each loop

What `sendChunk` and `recvChunk` do, for any chunk and any device: the first turns the chunk's part of the result into
the device's own product and hands the narrowed product to the peer; the second adds the peer's product to it and gets
both parts of the transfer buffer back, both semaphores at zero.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No function-specific variants. -/
abbrev 𝒱₀ : Variants := Variants.none

/-! ## Loads and stores of an owned part of a buffer -/

section Rules

variable (c : Dev nD) {cs : CoreSpace} {s : Shape} {e : EltTy} (mr : Memref sig .tc cs s e) (r : Rect s)
  (hr : ∀ a, r.stride a = 1)

/-- Loading the part that is owned at `X` continues with `X`. -/
theorem wp_load_owned {α : Type} {Q : α → sProp 𝕄} {hl : mr.view.LoadsAt r} {q : PosShare TreeShare} {X : r.shape.Idx → Elt F e}
    {k : (r.shape.Idx → Elt F e) → Prog (TpuEff nD τ sig (Elt F) Λ₀ .tc) α} :
    (owns (c : Thread nD τ) (mr.slice r hr) q X : sProp 𝕄)
      ⊢ iprop((owns (c : Thread nD τ) (mr.slice r hr) q X -∗ wp frame (wpE (defs₀ (F := F)) 𝒱₀ (c : Thread nD τ) none) Set.univ (k X) Q)
        -∗ wp frame (wpE (defs₀ (F := F)) 𝒱₀ (c : Thread nD τ) none) Set.univ (.op (.load mr r.toLoadRect hl) k) Q) := by
  unfold owns
  iintro ⟨%f, %hf, H⟩ Hk
  iapply (wp_load_rect 𝒱₀ (c : Thread nD τ) none Set.univ (m := mr) (r := r) (f := f) (Finset.Subset.refl _)) $$ H
  iintro H
  rw [show (mr.access r).read (Elt F) f = X from hf]
  iapply Hk
  iexists f
  isplitr; · ipureintro; exact hf
  iexact H

/-- Storing `w` into an owned part leaves it owned at `w`. -/
theorem wp_store_owned {α : Type} {Q : α → sProp 𝕄} {w : r.shape.Idx → Elt F e} {hx : (mr.access r).Stores Finset.univ}
    {hm : (Finset.univ : Finset r.shape.Idx) = Finset.univ ∨ ∀ a, r.stride a = 1} {X : r.shape.Idx → Elt F e}
    {k : PUnit → Prog (TpuEff nD τ sig (Elt F) Λ₀ .tc) α} :
    (owns (c : Thread nD τ) (mr.slice r hr) fullShare X : sProp 𝕄)
      ⊢ iprop((owns (c : Thread nD τ) (mr.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store mr r w Finset.univ hx hm) k) Q) := by
  unfold owns
  iintro ⟨%f, %hf, H⟩ Hk
  iapply (wp_store 𝒱₀ (c : Thread nD τ) none Set.univ (m := mr) (r := r) (Mk := Finset.univ) (S := (mr.access r).set) (f := f) (Finset.Subset.refl _)) $$ H
  iintro H
  iapply Hk
  iexists _
  isplitr; · ipureintro; exact View.read_write_univ f w
  iexact H

end Rules

/-! ## A chunk of the transfer buffer as a matrix -/

/-- A part owned in its own shape is its elements' points-to at contents that read so. -/
theorem piece_eq (c : Dev nD) (s : Fin 2) (k : Fin 4) (X : Vec F S1x256x1024 .bf16) :
    piece c s k X = iprop(∃ f, ⌜(cM.view.slice (rC s k)).read (Elt F) f = X⌝
      ∗ ((cP s k).view.loc (c : Thread nD τ) ↦[(cP s k).view.set]{fullShare} f)) := by
  have hs : (cP s k).view.set = (cM.view.slice (rC s k)).set := View.set_reshape _ _
  unfold piece owns
  rw [hs]

/-- Writing through one view seen in another shape what a second view reads in that other shape: the first then reads, in
    its own shape, what the second does. -/
theorem read_write_reshape {sp sp' : Space} {s s' : Shape} {e : EltTy} (v : View sig .tc sp s e) (v' : View sig .tc sp' s e)
    (h : s'.numel = s.numel) (fd : v.ty.Contents (Elt F)) (fs : v'.ty.Contents (Elt F)) :
    v.read (Elt F) ((v.reshape s' h).write (Elt F) fd ((v'.reshape s' h).read (Elt F) fs) Finset.univ) = v'.read (Elt F) fs := by
  funext j
  have hw := congrFun (View.read_write_univ (v := v.reshape s' h) fd ((v'.reshape s' h).read (Elt F) fs))
    ((Shape.reshapeEquiv h).symm j)
  have hv (g : v.ty.Contents (Elt F)) : (v.reshape s' h).read (Elt F) g ((Shape.reshapeEquiv h).symm j) = v.read (Elt F) g j := by
    show v.read (Elt F) g (Shape.reshapeEquiv h ((Shape.reshapeEquiv h).symm j)) = _
    rw [Equiv.apply_symm_apply]
  have hv' : (v'.reshape s' h).read (Elt F) fs ((Shape.reshapeEquiv h).symm j) = v'.read (Elt F) fs j := by
    show v'.read (Elt F) fs (Shape.reshapeEquiv h ((Shape.reshapeEquiv h).symm j)) = _
    rw [Equiv.apply_symm_apply]
  exact ((hv _).symm.trans hw).trans hv'

/-! ## The two chunk programs -/

/-- Every semaphore's invariant, under the names `K`, and that each is at its round 0. -/
def records (K : Dev nD × Cell → ℕ) : sProp 𝕄 :=
  iprop((bigSep Finset.univ fun x : Dev nD × Cell => cellInv ER (Rd m ρ) (K x) (kcell x))
    ∗ bigSep Finset.univ fun x : Dev nD × Cell => reached ER (kcell x) 0)

/-- The records may be used any number of times. -/
instance records_persistent (K : Dev nD × Cell → ℕ) : BI.Persistent (records m ρ K) := by unfold records; infer_instance

/-- The records hold each semaphore's invariant. -/
theorem inv_at (K : Dev nD × Cell → ℕ) (x : Dev nD × Cell) : records m ρ K ⊢ cellInv ER (Rd m ρ) (K x) (kcell x) := by
  unfold records
  iintro ⟨H, -⟩
  iapply (show (bigSep Finset.univ fun x : Dev nD × Cell => (cellInv ER (Rd m ρ) (K x) (kcell x) : sProp 𝕄)) ⊢ cellInv ER (Rd m ρ) (K x) (kcell x) from
    bigSep_elim (Finset.mem_univ x)); iexact H
/-- The records hold that each semaphore has reached its round. -/
theorem reached_at (K : Dev nD × Cell → ℕ) (x : Dev nD × Cell) : records m ρ K ⊢ (reached ER (kcell x) 0 : sProp 𝕄) := by
  unfold records
  iintro ⟨-, H⟩
  iapply (show (bigSep Finset.univ fun x : Dev nD × Cell => (reached ER (kcell x) 0 : sProp 𝕄)) ⊢ reached ER (kcell x) 0 from
    bigSep_elim (Finset.mem_univ x)); iexact H

/-- The staged block of `dy`, held whole. -/
def xPts (c : Dev nD) : sProp 𝕄 := ((c : Thread nD τ).loc cc0_stg0_0) ↦{fullShare} (xstg m ρ c)
/-- The working copy of the weights, held whole. -/
def bPts (c : Dev nD) : sProp 𝕄 := ((c : Thread nD τ).loc cc0_scratch0) ↦{fullShare} (wcopy m ρ c)

/-- The offsets of a whole matrix are zero. -/
theorem hz : (![0, 0] : Fin 2 → Nat) = fun _ => 0 := funext fun a => by fin_cases a <;> rfl

/-- Reading the whole copy of the weights reads it as it is. -/
theorem read_b (f : (cc0_scratch0 : Ref sig .tc).ty.Contents (Elt F)) : (bM.access rW).read (Elt F) f = f :=
  Memref.readAt_unit_zero (Elt F) cc0_scratch0 hz _ f

/-- The transfer of chunk `k` to the peer: the own slot-0 chunk and the peer's slot-1 chunk go, the credit of the
    departure comes, and the arrival is no longer owed. -/
theorem wp_transfer (K : Dev nD × Cell → ℕ) (c n : Dev nD) (hn : n = peer c) (k : Fin 4)
    {hsc : (cP 1 k : Memref sig (Dev.tc n : Thread nD τ).2.kind .vmem S256x1024 .bf16).view.ref.isScScratch = false}
    {hsrc : (cP 0 k).view.WordExact} {hdst : (cP 1 k : Memref sig (Dev.tc n : Thread nD τ).2.kind .vmem S256x1024 .bf16).view.WordExact}
    {hsem : DmaTarget.Typed .vmem (.dma (recvS k)) (.remote (Dev.tc n : Thread nD τ) (cP 1 k) (.dma (sendS k)) hsc)}
    {α : Type} {Q : α → sProp 𝕄} {p : PUnit → Prog (TpuEff nD τ sig (Elt F) Λ₀ .tc) α}
    (O : CellTallies nD τ sig Unit) (W : Waits sig Unit) (X : Vec F S1x256x1024 .bf16) :
    iprop(records m ρ K ∗ piece c 0 k (narrow m ρ c k) ∗ piece (peer c) 1 k X
        ∗ owes (c : Thread nD τ) (O + tallyAt (recvCell (peer c) k) () N) W
        ∗ dutyTok ER (sendCell c k) 0 () ∗ dutyTok ER (recvCell (peer c) k) 0 ())
      ⊢ iprop(((cred (tallyAt (sendCell c k) () N) ∗ owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (cP 0 k) (.remote (Dev.tc n : Thread nD τ) (cP 1 k) (.dma (sendS k)) hsc) (.dma (recvS k)) hsrc hdst hsem) p) Q) := by
  subst hn
  rw [piece_eq, piece_eq]
  iintro ⟨#HR, ⟨%fs, %hfs, Hs⟩, ⟨%fd, %hfd, Hd⟩, HO, Ht, Ht'⟩
  iapply (Rounds.wp_send_pointsTo 𝒱₀ ER (Rd m ρ) (c : Thread nD τ) none (κ₁ := K (c, cSend k)) (κ₂ := K (peer c, cRecv k))
    (r₁ := 0) (r₂ := 0) (d₁ := ()) (d₂ := ()) (fs := fs) (fd := fd) (q := fullShare)
    (mem_duties_cell m ρ c (cSend k)) (mem_duties_cell m ρ (peer c) (cRecv k))
    () () N (credit_eq 1 k) (amount_cell m ρ c (cSend k) ()) (amount_cell m ρ (peer c) (cRecv k) ()) O rfl (W := W)
    (by rw [show ((c : Thread nD τ), SemLoc.dma (sendS k)) = sendCell c k from rfl, payload_cell]
        show _ ⊢ piece c 0 k (narrow m ρ c k)
        rw [piece_eq]
        iintro H
        iexists fs
        isplitr; · ipureintro; exact hfs
        iexact H)
    (by rw [show ((peer c : Thread nD τ), SemLoc.dma (recvS k)) = recvCell (peer c) k from rfl, payload_cell]
        show _ ⊢ piece (peer c) 1 k (narrow m ρ (peer (peer c)) k)
        rw [piece_eq, peer_peer]
        iintro H
        iexists (cP 1 k).view.write (Elt F) fd ((cP 0 k).view.read (Elt F) fs) Finset.univ
        isplitr
        · ipureintro
          exact (read_write_reshape (cM.view.slice (rC 1 k)) (cM.view.slice (rC 0 k)) _ fd fs).trans hfs
        iexact H)) $$ [HO Hs Hd Ht Ht']
  isplitr; · iapply (inv_at m ρ K (c, cSend k)); iexact HR
  isplitr; · iapply (inv_at m ρ K (peer c, cRecv k)); iexact HR
  isplitl [Hs]; · iexact Hs
  isplitl [Hd]; · iexact Hd
  isplitl [HO]; · iexact HO
  isplitl [Ht]; · iexact Ht
  isplitr; · iapply (reached_at m ρ K (c, cSend k)); iexact HR
  isplitl [Ht']; · iexact Ht'
  iapply (reached_at m ρ K (peer c, cRecv k)); iexact HR

/-- A chunk of the first loop. -/
theorem wp_sendChunk (K : Dev nD × Cell → ℕ) (c n : Dev nD) (hn : n = peer c) (k : Fin 4)
    (O : CellTallies nD τ sig Unit) (W : Waits sig Unit) (Q : PUnit → sProp 𝕄) :
    iprop(records m ρ K ∗ xPts m ρ c ∗ bPts m ρ c ∗ (∃ X, strip (F := F) c k X) ∗ (∃ X, piece (F := F) c 0 k X)
        ∗ (∃ X, piece (F := F) (peer c) 1 k X) ∗ owes (c : Thread nD τ) (O + tallyAt (recvCell (peer c) k) () N) W
        ∗ dutyTok ER (sendCell c k) 0 () ∗ dutyTok ER (recvCell (peer c) k) 0 ())
      ⊢ iprop(((xPts m ρ c ∗ bPts m ρ c ∗ strip c k (prod m ρ c k) ∗ cred (tallyAt (sendCell c k) () N)
          ∗ owes (c : Thread nD τ) O W) -∗ Q ⟨⟩)
        -∗ wp frame (wpE (defs₀ (F := F)) 𝒱₀ (c : Thread nD τ) none) Set.univ (sendChunk (F := F) n k) Q) := by
  unfold sendChunk
  simp only [Prog.lift, Prog.bind_op, Prog.bind_ret, Prog.pure_eq_ret]
  iintro ⟨#HR, Hx, Hb, ⟨%Xo, Ho⟩, ⟨%X0, H0⟩, ⟨%X1, H1⟩, HO, Ht, Ht'⟩ Hk
  unfold xPts bPts
  iapply (wp_load_rect 𝒱₀ (c : Thread nD τ) none Set.univ (m := xM) (r := rX k) (Finset.subset_univ _)) $$ Hx; iintro Hx
  iapply (wp_load_rect 𝒱₀ (c : Thread nD τ) none Set.univ (m := bM) (r := rW) (Finset.subset_univ _)) $$ Hb; iintro Hb
  rw [read_b]
  iapply (wp_load_owned c oM (rO k) (fun _ => rfl)) $$ Ho; iintro Ho
  iapply (wp_store_owned c oM (rO k) (fun _ => rfl)) $$ Ho; iintro Ho
  iapply (wp_load_owned c cM (rC 0 k) (fun _ => rfl)) $$ H0; iintro H0
  iapply (wp_store_owned c cM (rC 0 k) (fun _ => rfl)) $$ H0; iintro H0
  iapply (wp_transfer m ρ K c n hn k O W X1) $$ [H0 H1 HO Ht Ht']
  · isplitr; · iexact HR
    isplitl [H0]; · iexact H0
    isplitl [H1]; · iexact H1
    isplitl [HO]; · iexact HO
    isplitl [Ht]; · iexact Ht
    iexact Ht'
  iintro ⟨Hc, HO⟩
  rw [wp_ret]; imodintro
  iapply Hk
  isplitl [Hx]; · iexact Hx
  isplitl [Hb]; · iexact Hb
  isplitl [Ho]; · iexact Ho
  isplitl [Hc]; · iexact Hc
  iexact HO

/-- Waiting for a transfer's semaphore while owing nothing: what it carries, and its counter at zero for good. -/
theorem wp_arrival (K : Dev nD × Cell → ℕ) (c : Dev nD) (j : Fin 4 ⊕ Fin 4) (s s' : Fin 2) (k : Fin 4) (q : DmaSem sig) (hq : osem j = .dma q)
    {hs : (cP s k).view.WordExact} {hs' : (cP s' k).view.WordExact}
    (W : Waits sig Unit) {α : Type} {Q : α → sProp 𝕄} {p : PUnit → Prog (TpuEff nD τ sig (Elt F) Λ₀ .tc) α} :
    iprop(records m ρ K ∗ cred (tallyAt (kcell (c, .inr j)) () N) ∗ owes (c : Thread nD τ) 0 W ∗ atPos ER (kcell (c, .inr j)) 0 ∅ 0)
      ⊢ iprop(((owes (c : Thread nD τ) 0 (insert (osem j, ()) W) ∗ pay m ρ c (.inr j) ∗ semVal (kcell (c, .inr j)) 0)
          -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 q (cP s k) (cP s' k) hs hs') p) Q) := by
  have hcell : kcell (c, .inr j) = ((c : Thread nD τ), SemLoc.dma q) := congrArg (Prod.mk (c : Thread nD τ)) hq
  iintro ⟨#HR, Hc, HO, Hat⟩ Hk
  iapply (Rounds.wp_wait_rest_token 𝒱₀ ER (Rd m ρ) (c : Thread nD τ) none (κ := K (c, .inr j))
      (wpE_waitDma2_eq 𝒱₀ (c : Thread nD τ) none Set.univ) (Set.mem_univ _) () (O := 0) (W := W) (R := 0) (m := 0) (T := ∅)
      (by rw [Nat.zero_add, ← hcell, expect_cell]; exact credit_eq s' k)) $$ [Hc HO Hat]
  · rw [← hcell]
    isplitr; · iapply (inv_at m ρ K (c, .inr j)); iexact HR
    isplitl [Hc]
    · rw [show (cP s' k).view.dmaCredit = N from credit_eq s' k]; iexact Hc
    isplitl [HO]; · iexact HO
    isplitr; · rw [MayWait_zero]; iempintro
    iexact Hat
  rw [← hcell]
  iintro ⟨HO, Hat, -, Hp⟩
  imod (Rounds.cell_close ER (Rd m ρ) (Set.mem_univ (K (c, .inr j))) (fun h => h) (R := 0 + 1) (duties_later m ρ (kcell (c, .inr j)))) $$ [Hat] with Hz
  · isplitr; · iapply (inv_at m ρ K (c, .inr j)); iexact HR
    iexact Hat
  iapply Hk
  isplitl [HO]; · rw [hq]; iexact HO
  isplitl [Hp]; · iapply (Entails.of_eq (rest_cell m ρ c (.inr j))); iexact Hp
  iexact Hz

/-- A chunk of the second loop. -/
theorem wp_recvChunk (K : Dev nD × Cell → ℕ) (c : Dev nD) (k : Fin 4) (W : Waits sig Unit) (Q : PUnit → sProp 𝕄) :
    iprop(records m ρ K ∗ strip c k (prod m ρ c k) ∗ cred (tallyAt (recvCell c k) () N) ∗ cred (tallyAt (sendCell c k) () N)
        ∗ owes (c : Thread nD τ) 0 W ∗ atPos ER (recvCell c k) 0 ∅ 0 ∗ atPos ER (sendCell c k) 0 ∅ 0)
      ⊢ iprop(((strip c k (total m ρ c k) ∗ (∃ X, piece (F := F) c 0 k X) ∗ (∃ X, piece (F := F) c 1 k X)
          ∗ semVal (sendCell c k) 0 ∗ semVal (recvCell c k) 0 ∗ ∃ W', owes (c : Thread nD τ) 0 W') -∗ Q ⟨⟩)
        -∗ wp frame (wpE (defs₀ (F := F)) 𝒱₀ (c : Thread nD τ) none) Set.univ (recvChunk (F := F) k) Q) := by
  unfold recvChunk
  simp only [Prog.lift, Prog.bind_op, Prog.bind_ret, Prog.pure_eq_ret]
  iintro ⟨#HR, Ho, Hcr, Hcs, HO, Har, Has⟩ Hk
  iapply (wp_arrival m ρ K c (.inr k) 0 1 k (recvS k) rfl W) $$ [Hcr HO Har]
  · isplitr; · iexact HR
    isplitl [Hcr]; · iexact Hcr
    isplitl [HO]; · iexact HO
    iexact Har
  iintro ⟨HO, Hp, Hzr⟩
  ihave H1 := (show pay m ρ c (.inr (.inr k)) ⊢ piece c 1 k (narrow m ρ (peer c) k) from .rfl) $$ Hp
  iapply (wp_load_owned c oM (rO k) (fun _ => rfl)) $$ Ho; iintro Ho
  iapply (wp_load_owned c cM (rC 1 k) (fun _ => rfl)) $$ H1; iintro H1
  iapply (wp_load_owned c oM (rO k) (fun _ => rfl)) $$ Ho; iintro Ho
  iapply (wp_store_owned c oM (rO k) (fun _ => rfl)) $$ Ho; iintro Ho
  iapply (wp_arrival m ρ K c (.inl k) 1 0 k (sendS k) rfl _) $$ [Hcs HO Has]
  · isplitr; · iexact HR
    isplitl [Hcs]; · iexact Hcs
    isplitl [HO]; · iexact HO
    iexact Has
  iintro ⟨HO, Hp, Hzs⟩
  ihave H0 := (show pay m ρ c (.inr (.inl k)) ⊢ piece c 0 k (narrow m ρ c k) from .rfl) $$ Hp
  rw [wp_ret]; imodintro
  iapply Hk
  isplitl [Ho]; · iexact Ho
  isplitl [H0]; · iexists (narrow m ρ c k); iexact H0
  isplitl [H1]; · iexists (narrow m ρ (peer c) k); iexact H1
  isplitl [Hzs]; · iexact Hzs
  isplitl [Hzr]; · iexact Hzr
  iexists _; iexact HO

end Cert.Exchange

end
-- ==== Proof.Body.lean ====
/-
# The whole body on one device

The body at a symbolic device, from what the launch gives it to what it leaves: the result holding, chunk by chunk, the
own product plus the peer's narrowed one, and every semaphore at zero. Each loop is one step lemma applied to the chunks
in order.
-/
module

public import proofs.«01_k».proof.Proof.Chunk
public import Idealize.ShloMosaic.Lib.Ring

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their chunks -/

/-- The chunks of the two slots do not overlap, -/
theorem disjC (t t' : Fin 2 × Fin 4) (h : t ≠ t') : Disjoint (rC t.1 t.2).set (rC t'.1 t'.2).set := by
  rw [Finset.disjoint_left]
  intro i hi hi'
  have h0 := Rect.mem_set_unit.mp hi (0 : Fin 3)
  have h1 := Rect.mem_set_unit.mp hi (1 : Fin 3)
  have h0' := Rect.mem_set_unit.mp hi' (0 : Fin 3)
  have h1' := Rect.mem_set_unit.mp hi' (1 : Fin 3)
  simp only [Matrix.cons_val_zero, Matrix.cons_val_one, show S1x256x1024.size (0 : Fin 3) = 1 from rfl,
    show S1x256x1024.size (1 : Fin 3) = 256 from rfl] at h0 h1 h0' h1'
  exact h (Prod.ext (Fin.ext (by omega)) (Fin.ext (by omega)))

/-- and make up the transfer buffer. -/
theorem coverC : (Finset.univ : Finset (Fin 2 × Fin 4)).biUnion (fun t => (rC t.1 t.2).set) = Finset.univ := by
  ext i
  simp only [Finset.mem_biUnion, Finset.mem_univ, true_and, iff_true]
  have h0 : (i (0 : Fin 3)).val < 2 := (i (0 : Fin 3)).isLt
  have h1 : (i (1 : Fin 3)).val < 1024 := (i (1 : Fin 3)).isLt
  have h2 : (i (2 : Fin 3)).val < 1024 := (i (2 : Fin 3)).isLt
  refine ⟨(⟨(i (0 : Fin 3)).val, h0⟩, ⟨(i (1 : Fin 3)).val / 256, by omega⟩), Rect.mem_set_unit.mpr fun a => ?_⟩
  fin_cases a
  · show (i (0 : Fin 3)).val ≤ (i (0 : Fin 3)).val ∧ (i (0 : Fin 3)).val < (i (0 : Fin 3)).val + 1
    omega
  · show 256 * ((i (1 : Fin 3)).val / 256) ≤ (i (1 : Fin 3)).val ∧ (i (1 : Fin 3)).val < 256 * ((i (1 : Fin 3)).val / 256) + 256
    omega
  · show 0 ≤ (i (2 : Fin 3)).val ∧ (i (2 : Fin 3)).val < 0 + 1024
    omega

/-- The chunks of the result do not overlap, -/
theorem disjO (k k' : Fin 4) (h : k ≠ k') : Disjoint (rO k).set (rO k').set := by
  rw [Finset.disjoint_left]
  intro i hi hi'
  have h0 := Rect.mem_set_unit.mp hi (0 : Fin 2)
  have h0' := Rect.mem_set_unit.mp hi' (0 : Fin 2)
  simp only [Matrix.cons_val_zero, show S256x1024.size (0 : Fin 2) = 256 from rfl] at h0 h0'
  exact h (Fin.ext (by omega))

/-- and make it up. -/
theorem coverO : (Finset.univ : Finset (Fin 4)).biUnion (fun k => (rO k).set) = Finset.univ := by
  ext i
  simp only [Finset.mem_biUnion, Finset.mem_univ, true_and, iff_true]
  have h0 : (i (0 : Fin 2)).val < 1024 := (i (0 : Fin 2)).isLt
  have h1 : (i (1 : Fin 2)).val < 1024 := (i (1 : Fin 2)).isLt
  refine ⟨⟨(i (0 : Fin 2)).val / 256, by omega⟩, Rect.mem_set_unit.mpr fun a => ?_⟩
  fin_cases a
  · show 256 * ((i (0 : Fin 2)).val / 256) ≤ (i (0 : Fin 2)).val ∧ (i (0 : Fin 2)).val < 256 * ((i (0 : Fin 2)).val / 256) + 256
    omega
  · show 0 ≤ (i (1 : Fin 2)).val ∧ (i (1 : Fin 2)).val < 0 + 1024
    omega

/-- The result as one array: row `i` is row `i % 256` of chunk `i / 256`. -/
def outAt (c : Dev nD) : (cc0_stg2_0 : Ref sig .tc).ty.Contents (Elt F) := fun i : S1024x1024.Idx =>
  total m ρ c ⟨(i (0 : Fin 2)).val / 256, by have h : (i (0 : Fin 2)).val < 1024 := (i (0 : Fin 2)).isLt; omega⟩
    (fun a : Fin 2 => match a with
      | 0 => (⟨(i (0 : Fin 2)).val % 256, Nat.mod_lt _ (by decide)⟩ : Fin 256)
      | 1 => (i (1 : Fin 2) : Fin 1024))

/-- Chunk `k` of that array is the sum for chunk `k`. -/
theorem outAt_emb (c : Dev nD) (k : Fin 4) (j : (rO k).shape.Idx) : outAt m ρ c ((rO k).emb j) = total m ρ c k j := by
  have hj0 : (j (0 : Fin 2)).val < 256 := (j (0 : Fin 2)).isLt
  have h0 : ((rO k).emb j (0 : Fin 2)).val = 256 * k.val + 1 * (j (0 : Fin 2)).val := rfl
  have h1 : ((rO k).emb j (1 : Fin 2)).val = 0 + 1 * (j (1 : Fin 2)).val := rfl
  unfold outAt
  congr 1
  · exact Fin.ext (by show ((rO k).emb j (0 : Fin 2)).val / 256 = k.val; rw [h0]; omega)
  · funext a
    fin_cases a
    · exact Fin.ext (by show ((rO k).emb j (0 : Fin 2)).val % 256 = (j (0 : Fin 2)).val; rw [h0]; omega)
    · exact Fin.ext (by show ((rO k).emb j (1 : Fin 2)).val = (j (1 : Fin 2)).val; rw [h1]; omega)

/-- A value is some value. -/
theorem any_intro {A : Type} (Φ : A → sProp 𝕄) (x : A) : Φ x ⊢ iprop(∃ y, Φ y) := by
  iintro H; iexists x; iexact H

/-- The transfer buffer held whole is its eight chunks, -/
theorem comm_split (c : Dev nD) (f : Buf (Elt F) ((c : Thread nD τ).loc cc0_scratch1)) :
    (((c : Thread nD τ).loc cc0_scratch1) ↦{fullShare} f : sProp 𝕄)
      ⊢ bigSep Finset.univ fun t : Fin 2 × Fin 4 => iprop(∃ X, piece (F := F) c t.1 t.2 X) := by
  have h := pointsTo_rects (Ix := Unit) (Name := ℕ) (U := UU) (Lvl := ℕ) (c : Thread nD τ) cM fullShare (fun t : Fin 2 × Fin 4 => rC t.1 t.2) (fun _ _ => rfl) disjC coverC f
  rw [show cM.view.set = Finset.univ from View.set_whole _] at h
  refine (Entails.of_eq h).trans (bigSep_mono fun t _ => any_intro _ _)

/-- and back. -/
theorem comm_join (c : Dev nD) (f₀ : Buf (Elt F) ((c : Thread nD τ).loc cc0_scratch1)) :
    (bigSep Finset.univ fun t : Fin 2 × Fin 4 => iprop(∃ X, piece (F := F) c t.1 t.2 X))
      ⊢ (iprop(∃ f : Buf (Elt F) ((c : Thread nD τ).loc cc0_scratch1), ((c : Thread nD τ).loc cc0_scratch1) ↦{fullShare} f) : sProp 𝕄) := by
  let I : Fin 2 × Fin 4 → Finset (Idx ((c : Thread nD τ).loc cc0_scratch1)) := fun t => (cM.view.slice (rC t.1 t.2)).set
  have hI (t : Fin 2 × Fin 4) : I t = (rC t.1 t.2).set := View.set_slice_whole _ _
  have hd (t t' : Fin 2 × Fin 4) (h : t ≠ t') : Disjoint (I t) (I t') := by rw [hI, hI]; exact disjC t t' h
  have hc : (Finset.univ : Finset (Fin 2 × Fin 4)).biUnion I = Finset.univ := (Finset.biUnion_congr rfl fun t _ => hI t).trans coverC
  have hp (t : Fin 2 × Fin 4) : iprop(∃ X, piece (F := F) c t.1 t.2 X)
      ⊢ (iprop(∃ f, ((c : Thread nD τ).loc cc0_scratch1) ↦[I t]{fullShare} f) : sProp 𝕄) := by
    unfold piece owns
    iintro ⟨%X, %f, -, H⟩
    iexists f; iexact H
  exact (bigSep_mono fun t _ => hp t).trans (Ring.pointsTo_blocks_join_exists I hd hc f₀)

/-- The result held whole is its four chunks, -/
theorem out_split (c : Dev nD) (f : Buf (Elt F) ((c : Thread nD τ).loc cc0_stg2_0)) :
    (((c : Thread nD τ).loc cc0_stg2_0) ↦{fullShare} f : sProp 𝕄)
      ⊢ bigSep Finset.univ fun k : Fin 4 => iprop(∃ X, strip (F := F) c k X) := by
  have h := pointsTo_rects (Ix := Unit) (Name := ℕ) (U := UU) (Lvl := ℕ) (c : Thread nD τ) oM fullShare rO (fun _ _ => rfl) disjO coverO f
  rw [show oM.view.set = Finset.univ from View.set_whole _] at h
  refine (Entails.of_eq h).trans (bigSep_mono fun t _ => any_intro _ _)

/-- and the four sums make up the whole result. -/
theorem out_join (c : Dev nD) :
    (bigSep Finset.univ fun k : Fin 4 => strip c k (total m ρ c k))
      ⊢ (((c : Thread nD τ).loc cc0_stg2_0) ↦{fullShare} (outAt m ρ c) : sProp 𝕄) := by
  have h := pointsTo_rects (Ix := Unit) (Name := ℕ) (U := UU) (Lvl := ℕ) (c : Thread nD τ) oM fullShare rO (fun _ _ => rfl) disjO coverO (outAt m ρ c)
  rw [show oM.view.set = Finset.univ from View.set_whole _] at h
  rw [h]
  exact Entails.of_eq (bigSep_congr fun k _ => by
    rw [show (fun j => oM.view.read (Elt F) (outAt m ρ c) ((rO k).emb j)) = total m ρ c k from funext fun j => outAt_emb m ρ c k j])

/-! ## A loop over the chunks -/

/-- The chunks below `n` are at `B`, the others at `A`. -/
def upTo (n : ℕ) (A B : Fin 4 → sProp 𝕄) : sProp 𝕄 := bigSep Finset.univ fun k : Fin 4 => if k.val < n then B k else A k

/-- Before the first chunk every chunk is as at the start. -/
theorem upTo_zero (A B : Fin 4 → sProp 𝕄) : upTo 0 A B = bigSep Finset.univ A := by
  unfold upTo; exact bigSep_congr fun k _ => if_neg (Nat.not_lt_zero _)
/-- After the fourth every chunk is done. -/
theorem upTo_four (A B : Fin 4 → sProp 𝕄) : upTo 4 A B = bigSep Finset.univ B := by
  unfold upTo; exact bigSep_congr fun k _ => if_pos k.isLt
/-- Chunk `k` goes from `A` to `B`. -/
theorem upTo_step (A B : Fin 4 → sProp 𝕄) (k : Fin 4) : upTo k.val A B ⊢ iprop(A k ∗ (B k -∗ upTo (k.val + 1) A B)) := by
  unfold upTo
  have h := bigSep_univ_update (Φ := fun j : Fin 4 => if j.val < k.val then B j else A j)
    (Ψ := fun j : Fin 4 => if j.val < k.val + 1 then B j else A j) k (fun j hj => by
      have hne : j.val ≠ k.val := fun e => hj (Fin.ext e)
      by_cases hlt : j.val < k.val
      · rw [if_pos hlt, if_pos (by omega)]
      · rw [if_neg hlt, if_neg (by omega)])
  rw [if_neg (Nat.lt_irrefl _), if_pos (Nat.lt_succ_self _)] at h
  exact h

/-! ## What a device starts from and what it leaves -/

/-- What device `c` starts with besides the records: its position at its nine semaphores, and the payments it will make. -/
def linear (c : Dev nD) : sProp 𝕄 :=
  iprop((bigSep Finset.univ fun j : Cell => atPos ER (kcell (c, j)) 0 ∅ 0)
    ∗ dutyTok ER (barCell (peer c)) 0 () ∗ (bigSep Finset.univ fun k : Fin 4 => dutyTok ER (sendCell c k) 0 ())
    ∗ (bigSep Finset.univ fun k : Fin 4 => dutyTok ER (recvCell (peer c) k) 0 ()))

/-- The credits it starts with: its barrier's unit and the four arrivals. -/
def credits (c : Dev nD) : sProp 𝕄 :=
  iprop(cred (tallyAt (barCell c) () 1) ∗ bigSep Finset.univ fun k : Fin 4 => cred (tallyAt (recvCell c k) () N))

/-- All of that, with the order of waiting. -/
def start (c : Dev nD) : sProp 𝕄 := iprop((∃ K, records m ρ K ∗ linear c) ∗ credits c ∗ levAts L lv)

/-- The two working buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body. -/
def Φ₀ (c : Dev nD) : sProp 𝕄 := iprop(start m ρ c ∗ scratch c)
/-- After it: the working buffers back, and the nine semaphores at zero. -/
def Φ₁ (c : Dev nD) : sProp 𝕄 := iprop(scratch c ∗ bigSep Finset.univ fun j : Cell => semVal (kcell (c, j)) 0)

/-- What the staging pipeline needs to know of the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The entry handshake and the copy -/

/-- The nine semaphores of a device: the barrier, the departures, the arrivals. -/
theorem bigSep_cells (Φ : Cell → sProp 𝕄) : bigSep Finset.univ Φ
    = iprop(Φ cBar ∗ (bigSep Finset.univ fun k => Φ (cSend k)) ∗ bigSep Finset.univ fun k => Φ (cRecv k)) := by
  rw [bigSep_univ_sum, bigSep_univ_sum (fun b : Fin 4 ⊕ Fin 4 => Φ (.inr b)), bigSep_univ_of_subsingleton ()]
  rfl

/-- The transfer buffer's chunks by slot. -/
theorem bigSep_slots (Φ : Fin 2 → Fin 4 → sProp 𝕄) : (bigSep Finset.univ fun t : Fin 2 × Fin 4 => Φ t.1 t.2)
    = iprop((bigSep Finset.univ fun k => Φ 0 k) ∗ bigSep Finset.univ fun k => Φ 1 k) := by
  rw [bigSep_univ_prod, bigSep_univ_two]

/-- What a device offers with its barrier signal: its own slot 1, and that its arrivals are at their first round. -/
theorem offer (K : Dev nD × Cell → ℕ) (c : Dev nD) :
    iprop(records m ρ K ∗ bigSep Finset.univ fun k : Fin 4 => iprop(∃ X, piece (F := F) c 1 k X))
      ⊢ (bigSep Finset.univ fun k : Fin 4 => iprop((∃ X, piece (F := F) c 1 k X) ∗ reached ER (recvCell c k) 0) : sProp 𝕄) :=
  bigSep_with_persistent (R := records m ρ K) fun k _ => by
    iintro ⟨#HR, H⟩
    isplitl; · iexact H
    iapply (reached_at m ρ K (c, cRecv k)); iexact HR

/-- A device's slot 1 is what the payment of its peer's barrier carries. -/
theorem offer_pay (K : Dev nD × Cell → ℕ) (c : Dev nD) :
    iprop(records m ρ K ∗ bigSep Finset.univ fun k : Fin 4 => iprop(∃ X, piece (F := F) c 1 k X))
      ⊢ (Rd m ρ).payload (barCell (peer c)) 0 () := by
  refine (offer m ρ K c).trans (Entails.of_eq ?_)
  rw [payload_cell]
  show _ = (bigSep Finset.univ fun k : Fin 4 =>
    iprop((∃ X, piece (F := F) (peer (peer c)) 1 k X) ∗ reached ER (recvCell (peer (peer c)) k) 0) : sProp 𝕄)
  rw [peer_peer]

/-- Signalling the peer's barrier gives it the own slot 1. -/
theorem wp_greet (K : Dev nD × Cell → ℕ) (c n : Dev nD) (hn : n = peer c) (W : Waits sig Unit) {α : Type} {Q : α → sProp 𝕄}
    {p : PUnit → Prog (TpuEff nD τ sig (Elt F) Λ₀ .tc) α} :
    iprop(records m ρ K ∗ owes (c : Thread nD τ) (O₀ c) W ∗ dutyTok ER (barCell (peer c)) 0 ()
        ∗ bigSep Finset.univ fun k : Fin 4 => iprop(∃ X, piece (F := F) c 1 k X))
      ⊢ iprop((owes (c : Thread nD τ) (owedRecv c 4) W -∗ wp frame (wpE (defs₀ (F := F)) 𝒱₀ (c : Thread nD τ) none) Set.univ (p ⟨⟩) Q)
        -∗ wp frame (wpE (defs₀ (F := F)) 𝒱₀ (c : Thread nD τ) none) Set.univ (.op (.semSignal (Dev.tc n : Thread nD τ) barS 1) p) Q) := by
  subst hn
  iintro ⟨#HR, HO, Ht, Hp⟩
  iapply (Rounds.wp_signal 𝒱₀ ER (Rd m ρ) (c : Thread nD τ) none (dst := (peer c : Thread nD τ)) (κ := K (peer c, cBar))
      (d := ()) (mem_duties_cell m ρ (peer c) cBar) (amount_cell m ρ (peer c) cBar ()) () (owedRecv c 4) rfl) $$ [HO Ht Hp]
  isplitr; · iapply (inv_at m ρ K (peer c, cBar)); iexact HR
  isplitl [HO]; · iexact HO
  isplitl [Ht]; · iexact Ht
  isplitl [Hp]
  · iapply (offer_pay m ρ K c)
    isplitr; · iexact HR
    iexact Hp
  · iapply (reached_at m ρ K (peer c, cBar)); iexact HR

/-- Waiting at the own barrier gives the peer's slot 1. -/
theorem wp_greeted (K : Dev nD × Cell → ℕ) (c : Dev nD) (W : Waits sig Unit) {α : Type} {Q : α → sProp 𝕄}
    {p : PUnit → Prog (TpuEff nD τ sig (Elt F) Λ₀ .tc) α} :
    iprop(records m ρ K ∗ levAts L lv ∗ cred (tallyAt (barCell c) () 1) ∗ owes (c : Thread nD τ) (owedRecv c 4) W ∗ atPos ER (barCell c) 0 ∅ 0)
      ⊢ iprop(((owes (c : Thread nD τ) (owedRecv c 4) (insert (SemLoc.reg barS, ()) W) ∗ semVal (barCell c) 0
            ∗ bigSep Finset.univ fun k : Fin 4 => iprop(∃ X, piece (F := F) (peer c) 1 k X))
          -∗ wp frame (wpE (defs₀ (F := F)) 𝒱₀ (c : Thread nD τ) none) Set.univ (p ⟨⟩) Q)
        -∗ wp frame (wpE (defs₀ (F := F)) 𝒱₀ (c : Thread nD τ) none) Set.univ (.op (.semWait barS 1) p) Q) := by
  iintro ⟨#HR, #Hlev, Hc, HO, Hat⟩ Hk
  iapply (Rounds.wp_wait_rest_token 𝒱₀ ER (Rd m ρ) (c : Thread nD τ) none (κ := K (c, cBar))
      (wpE_semWait_eq 𝒱₀ (c : Thread nD τ) none Set.univ) (Set.mem_univ _) () (O := owedRecv c 4) (W := W) (R := 0) (m := 0) (T := ∅)
      (by rw [Nat.zero_add, show ((c : Thread nD τ), SemLoc.reg barS) = barCell c from rfl, expect_cell]; rfl)) $$ [Hc HO Hat]
  · isplitr; · iapply (inv_at m ρ K (c, cBar)); iexact HR
    isplitl [Hc]; · iexact Hc
    isplitl [HO]; · iexact HO
    isplitr; · iapply (mayWait_bar c); iexact Hlev
    iexact Hat
  iintro ⟨HO, Hat, -, Hp⟩
  imod (Rounds.cell_close ER (Rd m ρ) (Set.mem_univ (K (c, cBar))) (fun h => h) (R := 0 + 1) (duties_later m ρ (barCell c))) $$ [Hat] with Hz
  · isplitr; · iapply (inv_at m ρ K (c, cBar)); iexact HR
    iexact Hat
  iapply Hk
  isplitl [HO]; · iexact HO
  isplitl [Hz]; · iexact Hz
  ihave Hq := (show _ ⊢ (bigSep Finset.univ fun k : Fin 4 =>
      iprop((∃ X, piece (F := F) (peer c) 1 k X) ∗ reached ER (recvCell (peer c) k) 0) : sProp 𝕄) from Entails.of_eq (rest_cell m ρ c cBar)) $$ Hp
  ihave Hq := (Entails.of_eq (bigSep_sep' Finset.univ (fun k : Fin 4 => iprop(∃ X, piece (F := F) (peer c) 1 k X)) (fun k => reached ER (recvCell (peer c) k) 0))) $$ Hq
  icases Hq with ⟨Hq, -⟩
  iexact Hq

/-- The staged weights, held whole. -/
def wPts (c : Dev nD) : sProp 𝕄 := ((c : Thread nD τ).loc cc0_stg1_0) ↦{fullShare} (wstg m ρ c)

/-- Reading the whole staged weights reads them as they are. -/
theorem read_w (f : (cc0_stg1_0 : Ref sig .tc).ty.Contents (Elt F)) : (wM.access rW).read (Elt F) f = f :=
  Memref.readAt_unit_zero (Elt F) cc0_stg1_0 hz _ f
/-- Writing the whole copy of the weights leaves what is written. -/
theorem write_b (f w : (cc0_scratch0 : Ref sig .tc).ty.Contents (Elt F)) : (bM.access rW).write (Elt F) f w Finset.univ = w :=
  Memref.write_access_unit_zero_univ (Elt F) cc0_scratch0 hz _ f w

/-- The copy fills the working copy with the staged weights. -/
theorem wp_copyW (c : Dev nD) (Q : PUnit → sProp 𝕄) :
    iprop(wPts m ρ c ∗ (∃ f : Buf (Elt F) ((c : Thread nD τ).loc cc0_scratch0), ((c : Thread nD τ).loc cc0_scratch0) ↦{fullShare} f))
      ⊢ iprop(((wPts m ρ c ∗ bPts m ρ c) -∗ Q ⟨⟩)
        -∗ wp frame (wpE (defs₀ (F := F)) 𝒱₀ (c : Thread nD τ) none) Set.univ (copyW (F := F)) Q) := by
  unfold copyW wPts bPts
  simp only [Prog.lift, Prog.bind_op, Prog.bind_ret, Prog.pure_eq_ret]
  iintro ⟨Hw, ⟨%f, Hb⟩⟩ Hk
  iapply (wp_load_rect 𝒱₀ (c : Thread nD τ) none Set.univ (m := wM) (r := rW) (Finset.subset_univ _)) $$ Hw; iintro Hw
  rw [read_w]
  iapply (wp_load_rect 𝒱₀ (c : Thread nD τ) none Set.univ (m := bM) (r := rW) (Finset.subset_univ _)) $$ Hb; iintro Hb
  iapply (wp_store 𝒱₀ (c : Thread nD τ) none Set.univ (m := bM) (r := rW) (Mk := Finset.univ) (Finset.subset_univ _)) $$ Hb; iintro Hb
  rw [write_b, wp_ret]; imodintro
  iapply Hk
  isplitl [Hw]; · iexact Hw
  iexact Hb

/-! ## The two loops -/

/-- A chunk before the first loop reaches it, -/
def toSend (c : Dev nD) (k : Fin 4) : sProp 𝕄 :=
  iprop((∃ X, strip (F := F) c k X) ∗ (∃ X, piece (F := F) c 0 k X) ∗ (∃ X, piece (F := F) (peer c) 1 k X)
    ∗ dutyTok ER (sendCell c k) 0 () ∗ dutyTok ER (recvCell (peer c) k) 0 ())
/-- and after. -/
def sent (c : Dev nD) (k : Fin 4) : sProp 𝕄 := iprop(strip c k (prod m ρ c k) ∗ cred (tallyAt (sendCell c k) () N))

/-- The first loop's step. -/
theorem step_send (K : Dev nD × Cell → ℕ) (c n : Dev nD) (hn : n = peer c) (k : Fin 4) (O : CellTallies nD τ sig Unit)
    (hO : O = owedRecv c (3 - k.val)) (W : Waits sig Unit) (Q : PUnit → sProp 𝕄) :
    iprop(records m ρ K ∗ (xPts m ρ c ∗ bPts m ρ c ∗ upTo k.val (toSend c) (sent m ρ c))
        ∗ owes (c : Thread nD τ) (O + tallyAt (recvCell (peer c) k) () N) W)
      ⊢ iprop((((xPts m ρ c ∗ bPts m ρ c ∗ upTo (k.val + 1) (toSend c) (sent m ρ c)) ∗ owes (c : Thread nD τ) O W) -∗ Q ⟨⟩)
        -∗ wp frame (wpE (defs₀ (F := F)) 𝒱₀ (c : Thread nD τ) none) Set.univ (sendChunk (F := F) n k) Q) := by
  iintro ⟨#HR, ⟨Hx, Hb, Hu⟩, HO⟩ Hk
  ihave Hs := (upTo_step (toSend c) (sent m ρ c) k) $$ Hu
  icases Hs with ⟨Ha, Hback⟩
  unfold toSend
  icases Ha with ⟨Ho, H0, H1, Ht, Ht'⟩
  iapply (wp_sendChunk m ρ K c n hn k O W Q) $$ [Hx Hb Ho H0 H1 Ht Ht' HO]
  · isplitr; · iexact HR
    isplitl [Hx]; · iexact Hx
    isplitl [Hb]; · iexact Hb
    isplitl [Ho]; · iexact Ho
    isplitl [H0]; · iexact H0
    isplitl [H1]; · iexact H1
    isplitl [HO]; · iexact HO
    isplitl [Ht]; · iexact Ht
    iexact Ht'
  iintro ⟨Hx, Hb, Ho, Hc, HO⟩
  iapply Hk
  isplitr [HO]
  · isplitl [Hx]; · iexact Hx
    isplitl [Hb]; · iexact Hb
    iapply Hback
    unfold sent
    isplitl [Ho]; · iexact Ho
    iexact Hc
  iexact HO

/-- A chunk before the second loop reaches it, -/
def toRecv (c : Dev nD) (k : Fin 4) : sProp 𝕄 :=
  iprop(sent m ρ c k ∗ cred (tallyAt (recvCell c k) () N) ∗ atPos ER (recvCell c k) 0 ∅ 0 ∗ atPos ER (sendCell c k) 0 ∅ 0)
/-- and after. -/
def received (c : Dev nD) (k : Fin 4) : sProp 𝕄 :=
  iprop(strip c k (total m ρ c k) ∗ (∃ X, piece (F := F) c 0 k X) ∗ (∃ X, piece (F := F) c 1 k X)
    ∗ semVal (sendCell c k) 0 ∗ semVal (recvCell c k) 0)

/-- The second loop's step. -/
theorem step_recv (K : Dev nD × Cell → ℕ) (c : Dev nD) (k : Fin 4) (Q : PUnit → sProp 𝕄) :
    iprop(records m ρ K ∗ upTo k.val (toRecv m ρ c) (received m ρ c) ∗ (∃ W, owes (c : Thread nD τ) 0 W))
      ⊢ iprop(((upTo (k.val + 1) (toRecv m ρ c) (received m ρ c) ∗ (∃ W, owes (c : Thread nD τ) 0 W)) -∗ Q ⟨⟩)
        -∗ wp frame (wpE (defs₀ (F := F)) 𝒱₀ (c : Thread nD τ) none) Set.univ (recvChunk (F := F) k) Q) := by
  iintro ⟨#HR, Hu, ⟨%W, HO⟩⟩ Hk
  ihave Hs := (upTo_step (toRecv m ρ c) (received m ρ c) k) $$ Hu
  icases Hs with ⟨Ha, Hback⟩
  unfold toRecv sent
  icases Ha with ⟨⟨Ho, Hcs⟩, Hcr, Har, Has⟩
  iapply (wp_recvChunk m ρ K c k W Q) $$ [Ho Hcr Hcs HO Har Has]
  · isplitr; · iexact HR
    isplitl [Ho]; · iexact Ho
    isplitl [Hcr]; · iexact Hcr
    isplitl [Hcs]; · iexact Hcs
    isplitl [HO]; · iexact HO
    isplitl [Har]; · iexact Har
    iexact Has
  iintro ⟨Ho, H0, H1, Hzs, Hzr, HO⟩
  iapply Hk
  isplitr [HO]
  · iapply Hback
    unfold received
    isplitl [Ho]; · iexact Ho
    isplitl [H0]; · iexact H0
    isplitl [H1]; · iexact H1
    isplitl [Hzs]; · iexact Hzs
    iexact Hzr
  iexact HO

/-! ## The body -/

/-- The launch has one grid point. -/
theorem cfg0_N : cfg0.N = 1 := by decide
/-- The pipeline's one point. -/
def t₀ : Fin cfg0.N := ⟨0, by rw [cfg0_N]; decide⟩
/-- Every grid point is that one. -/
theorem fin_N (t : Fin cfg0.N) : t = t₀ := by
  have h : t.val < 1 := lt_of_lt_of_eq t.isLt cfg0_N
  exact Fin.ext (by show t.val = 0; omega)

/-- The four sends, from the chunks before them to the chunks after. -/
theorem wp_sends (K : Dev nD × Cell → ℕ) (c : Dev nD) (n : Fin 4 → Dev nD) (hn : ∀ k, n k = peer c) (W : Waits sig Unit)
    {α : Type} {Q : α → sProp 𝕄} (p : Prog (TpuEff nD τ sig (Elt F) Λ₀ .tc) α) :
    iprop(records m ρ K ∗ (xPts m ρ c ∗ bPts m ρ c ∗ upTo 0 (toSend c) (sent m ρ c)) ∗ owes (c : Thread nD τ) (owedRecv c 4) W)
      ⊢ iprop((((xPts m ρ c ∗ bPts m ρ c ∗ upTo 4 (toSend c) (sent m ρ c)) ∗ owes (c : Thread nD τ) 0 W)
          -∗ wp frame (wpE (defs₀ (F := F)) 𝒱₀ (c : Thread nD τ) none) Set.univ p Q)
        -∗ wp frame (wpE (defs₀ (F := F)) 𝒱₀ (c : Thread nD τ) none) Set.univ
          (sendChunk (F := F) (n 0) 0 >>= fun _ => sendChunk (n 1) 1 >>= fun _ => sendChunk (n 2) 2 >>= fun _ => sendChunk (n 3) 3 >>= fun _ => p) Q) := by
  simp only [Idealize.SL.Sem.wp_bind]
  iintro ⟨#HR, H⟩ Hk
  iapply (step_send m ρ K c (n 0) (hn 0) 0 (owedRecv c 3) rfl W) $$ [H]
  · isplitr; · iexact HR
    iexact H
  iintro H
  iapply (step_send m ρ K c (n 1) (hn 1) 1 (owedRecv c 2) rfl W) $$ [H]
  · isplitr; · iexact HR
    iexact H
  iintro H
  iapply (step_send m ρ K c (n 2) (hn 2) 2 (owedRecv c 1) rfl W) $$ [H]
  · isplitr; · iexact HR
    iexact H
  iintro H
  iapply (step_send m ρ K c (n 3) (hn 3) 3 (owedRecv c 0) rfl W) $$ [H]
  · isplitr; · iexact HR
    iexact H
  iintro H
  iapply Hk
  iexact H

/-- The four arrivals. -/
theorem wp_recvs (K : Dev nD × Cell → ℕ) (c : Dev nD) (Q : PUnit → sProp 𝕄) :
    iprop(records m ρ K ∗ upTo 0 (toRecv m ρ c) (received m ρ c) ∗ (∃ W, owes (c : Thread nD τ) 0 W))
      ⊢ iprop(((upTo 4 (toRecv m ρ c) (received m ρ c) ∗ (∃ W, owes (c : Thread nD τ) 0 W)) -∗ Q ⟨⟩)
        -∗ wp frame (wpE (defs₀ (F := F)) 𝒱₀ (c : Thread nD τ) none) Set.univ
          (recvChunk (F := F) 0 >>= fun _ => recvChunk 1 >>= fun _ => recvChunk 2 >>= fun _ => recvChunk 3) Q) := by
  simp only [Idealize.SL.Sem.wp_bind]
  iintro ⟨#HR, H⟩ Hk
  iapply (step_recv m ρ K c 0) $$ [H]
  · isplitr; · iexact HR
    iexact H
  iintro H
  iapply (step_recv m ρ K c 1) $$ [H]
  · isplitr; · iexact HR
    iexact H
  iintro H
  iapply (step_recv m ρ K c 2) $$ [H]
  · isplitr; · iexact HR
    iexact H
  iintro H
  iapply (step_recv m ρ K c 3) $$ [H]
  · isplitr; · iexact HR
    iexact H
  iexact Hk

/-- The chunks before the first loop, from their parts. -/
theorem toSend_intro (c : Dev nD) :
    iprop((bigSep Finset.univ fun k : Fin 4 => iprop(∃ X, strip (F := F) c k X)) ∗ (bigSep Finset.univ fun k : Fin 4 => iprop(∃ X, piece (F := F) c 0 k X))
        ∗ (bigSep Finset.univ fun k : Fin 4 => iprop(∃ X, piece (F := F) (peer c) 1 k X))
        ∗ (bigSep Finset.univ fun k : Fin 4 => dutyTok ER (sendCell c k) 0 ()) ∗ bigSep Finset.univ fun k : Fin 4 => dutyTok ER (recvCell (peer c) k) 0 ())
      ⊢ (upTo 0 (toSend c) (sent m ρ c) : sProp 𝕄) := by
  rw [upTo_zero]; unfold toSend; simp only [bigSep_sep']; exact .rfl

/-- The chunks between the loops, with what the second loop needs. -/
theorem toRecv_intro (c : Dev nD) :
    iprop(upTo 4 (toSend c) (sent m ρ c) ∗ (bigSep Finset.univ fun k : Fin 4 => cred (tallyAt (recvCell c k) () N))
        ∗ (bigSep Finset.univ fun k : Fin 4 => atPos ER (recvCell c k) 0 ∅ 0) ∗ bigSep Finset.univ fun k : Fin 4 => atPos ER (sendCell c k) 0 ∅ 0)
      ⊢ (upTo 0 (toRecv m ρ c) (received m ρ c) : sProp 𝕄) := by
  rw [upTo_zero, upTo_four]; unfold toRecv; simp only [bigSep_sep']; exact .rfl

/-- The chunks after the second loop, in their parts. -/
theorem received_elim (c : Dev nD) :
    upTo 4 (toRecv m ρ c) (received m ρ c)
      ⊢ iprop((bigSep Finset.univ fun k : Fin 4 => strip c k (total m ρ c k)) ∗ (bigSep Finset.univ fun k : Fin 4 => iprop(∃ X, piece (F := F) c 0 k X))
        ∗ (bigSep Finset.univ fun k : Fin 4 => iprop(∃ X, piece (F := F) c 1 k X))
        ∗ (bigSep Finset.univ fun k : Fin 4 => semVal (sendCell c k) 0) ∗ bigSep Finset.univ fun k : Fin 4 => semVal (recvCell c k) 0) := by
  rw [upTo_four]; unfold received; simp only [bigSep_sep']; exact .rfl

/-- The transfer buffer in its two slots, -/
theorem slots_split (c : Dev nD) (f : Buf (Elt F) ((c : Thread nD τ).loc cc0_scratch1)) :
    (((c : Thread nD τ).loc cc0_scratch1) ↦{fullShare} f : sProp 𝕄)
      ⊢ iprop((bigSep Finset.univ fun k : Fin 4 => iprop(∃ X, piece (F := F) c 0 k X)) ∗ bigSep Finset.univ fun k : Fin 4 => iprop(∃ X, piece (F := F) c 1 k X)) :=
  (comm_split c f).trans (Entails.of_eq (bigSep_slots fun s k => iprop(∃ X, piece (F := F) c s k X)))
/-- and back. -/
theorem slots_join (c : Dev nD) :
    iprop((bigSep Finset.univ fun k : Fin 4 => iprop(∃ X, piece (F := F) c 0 k X)) ∗ bigSep Finset.univ fun k : Fin 4 => iprop(∃ X, piece (F := F) c 1 k X))
      ⊢ (iprop(∃ f : Buf (Elt F) ((c : Thread nD τ).loc cc0_scratch1), ((c : Thread nD τ).loc cc0_scratch1) ↦{fullShare} f) : sProp 𝕄) :=
  (Entails.of_eq (bigSep_slots fun s k => iprop(∃ X, piece (F := F) c s k X)).symm).trans (comm_join c fun _ => Classical.arbitrary _)

/-- A staging buffer held whole at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body's context on entry, -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- and on exit. -/
def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outAt m ρ c))

/-- Before the body the first staging buffer holds the block of `dy`. -/
theorem before_x (c : Dev nD) (d) : (dats (F := F) m ρ 0 c).before (0 : Fin 3) t₀ d = xstg m ρ c :=
  if_pos (by rfl)
/-- Before the body the second staging buffer holds the block of the weights. -/
theorem before_w (c : Dev nD) (d) : (dats (F := F) m ρ 0 c).before (1 : Fin 3) t₀ d = wstg m ρ c :=
  if_pos (by rfl)

set_option maxHeartbeats 800000 in
/-- A device's body takes its context on entry to its context on exit. -/
theorem sound_body (c : Dev nD) :
    bodyPre m ρ c ⊢ wp frame (wpE (defs₀ (F := F)) 𝒱₀ (c : Thread nD τ) none) Set.univ (chunked (F := F)) (fun _ => bodyPost m ρ c) := by
  unfold chunked bodyPre Φ₀ start credits scratch Dat.owesAt Pipeline.owesWithin
  simp only [before_x, before_w]
  rw [show (dats m ρ 0 c).owed t₀.castSucc = O₀ c from rfl]
  simp only [semSignalWord, semWaitWord, Prog.lift, Prog.bind_op, Prog.bind_ret, Prog.pure_eq_ret, wp_deviceId,
    show (1#32 : BitVec 32).toInt = 1 from by decide]
  iintro ⟨⟨⟨⟨%K, #HR, Hlin⟩, ⟨HcB, HcR⟩, #Hlev⟩, Hs0, ⟨%f1, Hs1⟩⟩, ⟨%W, %hW, HO⟩, ⟨%d0, %g0, %e0, Hx⟩, ⟨%d1, %g1, %e1, Hw⟩, ⟨%d2, %g2, %e2, Ho⟩⟩
  subst e0; subst e1
  unfold linear
  icases Hlin with ⟨Hat, HtB, HtS, HtR⟩
  ihave Hat := (Entails.of_eq (bigSep_cells fun j => atPos ER (kcell (c, j)) 0 ∅ 0)) $$ Hat
  icases Hat with ⟨HaB, HaS, HaR⟩
  ihave Hp := (slots_split c f1) $$ Hs1
  icases Hp with ⟨Hp0, Hp1⟩
  -- the handshake: the own slot 1 against the peer's
  iapply (wp_greet m ρ K c _ (Fin.ext (k0_dev1_eq c)) W) $$ [HO HtB Hp1]
  · isplitr; · iexact HR
    isplitl [HO]; · iexact HO
    isplitl [HtB]; · iexact HtB
    iexact Hp1
  iintro HO
  iapply (wp_greeted m ρ K c W) $$ [HcB HO HaB]
  · isplitr; · iexact HR
    isplitr; · iexact Hlev
    isplitl [HcB]; · iexact HcB
    isplitl [HO]; · iexact HO
    iexact HaB
  iintro ⟨HO, HzB, Hq⟩
  -- the copy of the weights
  rw [Idealize.SL.Sem.wp_bind]
  iapply (wp_copyW m ρ c) $$ [Hw Hs0]
  · unfold wPts
    isplitl [Hw]; · iexact Hw
    iexact Hs0
  iintro ⟨Hw, Hb⟩
  -- the sends
  ihave Hos := (out_split c g2) $$ Ho
  ihave Hu := (toSend_intro m ρ c) $$ [Hos Hp0 Hq HtS HtR]
  · isplitl [Hos]; · iexact Hos
    isplitl [Hp0]; · iexact Hp0
    isplitl [Hq]; · iexact Hq
    isplitl [HtS]; · iexact HtS
    iexact HtR
  iapply (wp_sends m ρ K c (fun k => match k with
    | ⟨0, _⟩ => ⟨k0_dev2 c, k0_dev2_lt c⟩ | ⟨1, _⟩ => ⟨k0_dev3 c, k0_dev3_lt c⟩ | ⟨2, _⟩ => ⟨k0_dev4 c, k0_dev4_lt c⟩ | ⟨3, _⟩ => ⟨k0_dev5 c, k0_dev5_lt c⟩)
    (fun k => by
      fin_cases k
      exacts [Fin.ext (k0_dev2_eq c), Fin.ext (k0_dev3_eq c), Fin.ext (k0_dev4_eq c), Fin.ext (k0_dev5_eq c)])) $$ [Hx Hb Hu HO]
  · isplitr; · iexact HR
    isplitr [HO]
    · isplitl [Hx]; · unfold xPts; iexact Hx
      isplitl [Hb]; · iexact Hb
      iexact Hu
    iexact HO
  iintro ⟨⟨Hx, Hb, Hu⟩, HO⟩
  -- the arrivals
  ihave Hu := (toRecv_intro m ρ c) $$ [Hu HcR HaR HaS]
  · isplitl [Hu]; · iexact Hu
    isplitl [HcR]; · iexact HcR
    isplitl [HaR]; · iexact HaR
    iexact HaS
  iapply (wp_recvs m ρ K c) $$ [Hu HO]
  · isplitr; · iexact HR
    isplitl [Hu]; · iexact Hu
    iexists _; iexact HO
  iintro ⟨Hu, ⟨%W', HO⟩⟩
  ihave Hd := (received_elim m ρ c) $$ Hu
  icases Hd with ⟨Hos, Hp0, Hp1, HzS, HzR⟩
  ihave Ho := (out_join m ρ c) $$ Hos
  ihave Hs1 := (slots_join c) $$ [Hp0 Hp1]
  · isplitl [Hp0]; · iexact Hp0
    iexact Hp1
  unfold bodyPost Φ₁ scratch Dat.owesAt Pipeline.owesWithin xPts wPts bPts
  rw [show (dats m ρ 0 c).owed t₀.succ = 0 from rfl]
  isplitl [Hs1 Hb HzB HzS HzR]
  · isplitl [Hs1 Hb]
    · isplitl [Hb]; · iexists _; iexact Hb
      iexact Hs1
    rw [bigSep_cells]
    isplitl [HzB]; · iexact HzB
    isplitl [HzS]; · iexact HzS
    iexact HzR
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
/-- The staging pipeline's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c)
  rw [body_eq]
  exact sound_body m ρ c

end Cert.Exchange

end
-- ==== Proof.Run.lean ====
/-
# The launch

All devices start together: the rounds of every semaphore are opened under one update, each device keeps its positions
and the payments of its own departures, and passes the payments of its barrier and its arrivals to its peer, which will
make them. What each device owes at launch is what its peer is credited with. The run then follows from the body.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Opening the rounds -/

/-- The kernel's own semaphores are not the staging ones. -/
theorem ownSemFacts : Pipeline.OwnSemFacts cfg0.spec osem := by decide

/-- Every staged array is held whole. -/
theorem share_eq (c : Dev nD) (w : Fin cfg0.W) : (dats m ρ 0 c).share w = fullShare := by unfold Dat.share; split <;> rfl

/-- All the semaphores of the exchange. -/
def cells : Finset (GSem nD τ sig) := Finset.univ.map ⟨kcell, kcell_injective⟩

/-- The one payment of a semaphore. -/
def tokOf (x : Dev nD × Cell) : GSem nD τ sig × ℕ × Unit := (kcell x, 0, ())
/-- Different semaphores have different payments. -/
theorem tokOf_injective : Function.Injective tokOf := fun _ _ h => kcell_injective (congrArg Prod.fst h)
/-- All the payments. -/
def tokens : Finset (GSem nD τ sig × ℕ × Unit) := Finset.univ.map ⟨tokOf, tokOf_injective⟩

/-- The resources at launch. -/
def u₀ : UU := (initOf (Pipeline.cells cfgs cellOf_inj) (Pipeline.launchToks cfgs cellOf_inj), initOf cells tokens)

/-- One assertion for each of a device's nine semaphores. -/
abbrev nine (Φ : Dev nD × Cell → sProp 𝕄) (c : Dev nD) : sProp 𝕄 := bigSep Finset.univ fun j : Cell => Φ (c, j)

/-- An assertion at each semaphore of the exchange is one at the nine of each device. -/
theorem by_device (Φ : GSem nD τ sig → sProp 𝕄) : bigSep cells Φ = bigSep Finset.univ (nine fun x => Φ (kcell x)) := by
  unfold cells; rw [bigSep_map, bigSep_univ_prod]; rfl
/-- All payments are each device's nine. -/
theorem tokens_by_device : bigSep tokens (fun t => (dutyTok ER t.1 t.2.1 t.2.2 : sProp 𝕄)) = bigSep Finset.univ (nine fun x => dutyTok ER (kcell x) 0 ()) := by
  unfold tokens; rw [bigSep_map, bigSep_univ_prod]; rfl

/-- What device `c` receives at launch: for its nine semaphores the round's state, the position, the record that round 0 is
    reached, and the payment. -/
def G (c : Dev nD) : sProp 𝕄 :=
  iprop(nine (fun x => roundState ER (Rd m ρ) (kcell x) 0) c ∗ nine (fun x => atPos ER (kcell x) 0 ∅ 0) c
    ∗ nine (fun x => reached ER (kcell x) 0) c ∗ nine (fun x => dutyTok ER (kcell x) 0 ()) c)

/-- What it holds once the rounds are open. -/
def G' (c : Dev nD) : sProp 𝕄 := iprop(∃ K, records m ρ K ∗ linear c)

/-- The launch resources fund every device. -/
theorem fund_all : BI.own (ER (initOf cells tokens)) ⊢ (|==> bigSep Finset.univ (G m ρ) : sProp 𝕄) := by
  iintro H
  imod (Rounds.fund ER (Rd m ρ) cells tokens) $$ H with ⟨Hst, Hr, Hat, Htok⟩
  imodintro
  ihave Hst := (Entails.of_eq (by_device fun g => roundState ER (Rd m ρ) g 0)) $$ Hst
  ihave Hat := (Entails.of_eq (by_device fun g => atPos ER g 0 ∅ 0)) $$ Hat
  ihave Hr := (Entails.of_eq (by_device fun g => reached ER g 0)) $$ Hr
  ihave Htok := (Entails.of_eq tokens_by_device) $$ Htok
  unfold G
  simp only [bigSep_sep']
  isplitl [Hst]; · iexact Hst
  isplitl [Hat]; · iexact Hat
  isplitl [Hr]; · iexact Hr
  iexact Htok

/-- The barrier is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's nine semaphores at zero are its own eight and the barrier at zero. -/
theorem zeros (c : Dev nD) : (nine (fun x => semVal (kcell x) 0) c : sProp 𝕄)
    = iprop(unscopedSems0 c ∗ Pipeline.ownSems0 (Ix := Unit) (Name := ℕ) (U := UU) (Lvl := ℕ) (Val := Elt F) (τ := τ) osem c) := by
  unfold nine
  rw [bigSep_univ_sum, bigSep_univ_of_subsingleton (), unscopedSems0_eq]
  rfl

/-- Every one of the nine rounds opens. -/
theorem open_rounds (c : Dev nD) :
    iprop(nine (fun x => semVal (kcell x) 0) c ∗ nine (fun x => roundState ER (Rd m ρ) (kcell x) 0) c)
      ⊢ (|={Set.univ}=> nine (fun x => iprop(∃ κ : ℕ, cellInv ER (Rd m ρ) κ (kcell x))) c : sProp 𝕄) := by
  unfold nine
  rw [← bigSep_sep']
  exact (bigSep_mono fun j _ => (Rounds.body_intro ER (Rd m ρ) (kcell (c, j))).trans inv_alloc).trans (bigSep_fupd _ _)

/-- One device's part of the launch update. -/
theorem open_device (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(nine (fun x => iprop(∃ κ : ℕ, cellInv ER (Rd m ρ) κ (kcell x))) c ∗ nine (fun x => reached ER (kcell x) 0) c
          ∗ nine (fun x => atPos ER (kcell x) 0 ∅ 0) c ∗ nine (fun x => dutyTok ER (kcell x) 0 ()) c) := by
  unfold G
  iintro ⟨Hos, Hus, Hst, Hat, Hr, Htok⟩
  imod (open_rounds m ρ c) $$ [Hos Hus Hst] with Hinv
  · isplitr [Hst]
    · iapply (Entails.of_eq (zeros (F := F) c).symm)
      isplitl [Hus]; · iexact Hus
      iexact Hos
    iexact Hst
  imodintro
  isplitl [Hinv]; · iexact Hinv
  isplitl [Hr]; · iexact Hr
  isplitl [Hat]; · iexact Hat
  iexact Htok

/-- Each device passes the payments of its barrier and its arrivals to its peer. -/
theorem deal : iprop((bigSep Finset.univ (nine fun x => atPos ER (kcell x) 0 ∅ 0)) ∗ bigSep Finset.univ (nine fun x => dutyTok ER (kcell x) 0 ()))
    ⊢ (bigSep Finset.univ linear : sProp 𝕄) := by
  unfold linear
  rw [bigSep_sep', bigSep_sep', bigSep_sep', show (nine fun x => dutyTok ER (kcell x) 0 () : Dev nD → sProp 𝕄)
      = fun c => iprop(dutyTok ER (barCell c) 0 () ∗ (bigSep Finset.univ fun k : Fin 4 => dutyTok ER (sendCell c k) 0 ())
        ∗ bigSep Finset.univ fun k : Fin 4 => dutyTok ER (recvCell c k) 0 ()) from funext fun c => bigSep_cells fun j => dutyTok ER (kcell (c, j)) 0 (),
    bigSep_sep', bigSep_sep', bigSep_univ_equiv cross (fun c : Dev nD => (dutyTok ER (barCell c) 0 () : sProp 𝕄)),
    bigSep_univ_equiv cross (fun c : Dev nD => (bigSep Finset.univ fun k : Fin 4 => dutyTok ER (recvCell c k) 0 () : sProp 𝕄))]
  exact .rfl

/-- The records are everybody's. -/
theorem share_records :
    (bigSep Finset.univ fun c : Dev nD => iprop(nine (fun x => iprop(∃ κ : ℕ, cellInv ER (Rd m ρ) κ (kcell x))) c ∗ nine (fun x => reached ER (kcell x) 0) c
          ∗ nine (fun x => atPos ER (kcell x) 0 ∅ 0) c ∗ nine (fun x => dutyTok ER (kcell x) 0 ()) c) : sProp 𝕄)
      ⊢ bigSep Finset.univ (G' m ρ) := by
  rw [bigSep_sep', bigSep_sep', bigSep_sep', ← bigSep_univ_prod (fun x : Dev nD × Cell => iprop(∃ κ : ℕ, cellInv ER (Rd m ρ) κ (kcell x))),
    ← bigSep_univ_prod (fun x : Dev nD × Cell => (reached ER (kcell x) 0 : sProp 𝕄))]
  iintro ⟨HI, #HR, Hl⟩
  ihave HK := (BI.bigSep_exists_pi Finset.univ (fun (x : Dev nD × Cell) (κ : ℕ) => (cellInv ER (Rd m ρ) κ (kcell x) : sProp 𝕄))) $$ HI
  icases HK with ⟨%K, #HI⟩
  ihave Hl := (deal (F := F)) $$ Hl
  iapply (show iprop(records m ρ K ∗ bigSep Finset.univ linear) ⊢ bigSep Finset.univ (G' m ρ) from
    bigSep_with_persistent fun c _ => by unfold G'; iintro H; iexists K; iexact H)
  isplitr
  · unfold records
    isplitl; · iexact HI
    iexact HR
  iexact Hl

/-- The launch update, for all devices at once. -/
theorem open_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_device m ρ c).trans (bigSep_fupd _ _)).trans (BI.fupd_mono (share_records m ρ))

/-! ## The credits -/

/-- What the peer owes a device's semaphore at launch. -/
def due : Cell → ℕ
  | .inl _ => 1
  | .inr (.inl _) => 0
  | .inr (.inr _) => N

/-- What is owed for all four arrivals, as a sum. -/
theorem owedRecv_four (c : Dev nD) : owedRecv c 4 = ∑ k : Fin 4, tallyAt (recvCell (peer c) k) () N := by
  rw [Fin.sum_univ_four]
  show 0 + tallyAt (recvCell (peer c) 3) () N + tallyAt (recvCell (peer c) 2) () N + tallyAt (recvCell (peer c) 1) () N
    + tallyAt (recvCell (peer c) 0) () N = _
  rw [zero_add]
  ac_rfl

/-- A tally at one semaphore read at another. -/
theorem tally_cell (x y : Dev nD × Cell) (n : ℕ) : (tallyAt (kcell x) () n : CellTallies nD τ sig Unit) (kcell y) () = if y = x then n else 0 := by
  rw [tallyAt_apply]
  exact if_congr ⟨fun h => kcell_injective h.1, fun h => ⟨congrArg kcell h, rfl⟩⟩ rfl rfl

/-- A device owes its peer's semaphores, and no others. -/
theorem owed_cell (d c : Dev nD) (j : Cell) : O₀ d (kcell (c, j)) () = if d = peer c then due j else 0 := by
  have hp : (c = peer d) ↔ d = peer c := ⟨fun h => by rw [h, peer_peer], fun h => by rw [h, peer_peer]⟩
  unfold O₀
  rw [owedRecv_four, Pi.add_apply, Finsupp.add_apply, Finset.sum_apply, Finsupp.finset_sum_apply]
  simp only [tally_cell, Prod.mk.injEq, hp]
  by_cases h : d = peer c
  · simp only [h, true_and, if_true]
    rcases j with _ | k | k <;> simp [due]
  · simp only [h, false_and, if_false, Finset.sum_const_zero]

/-- So each semaphore is credited with what is due. -/
theorem launch_cell (c : Dev nD) (j : Cell) :
    tallyOn (kcell (c, j)) (launchCredit (Pipeline.owing O₀) 0 (kcell (c, j))) = (tallyAt (kcell (c, j)) () (due j) : CellTallies nD τ sig Unit) := by
  unfold tallyAt
  refine congrArg _ (Finsupp.ext fun u => ?_)
  cases u
  rw [Pipeline.launchCredit_owing, Finsupp.single_eq_same, Finset.sum_congr rfl fun d _ => owed_cell d c j,
    Finset.sum_ite_eq' Finset.univ (peer c) fun _ => due j, if_pos (Finset.mem_univ _)]

/-- The launch credits a device with its barrier's unit and the four arrivals. -/
theorem credits_intro (c : Dev nD) : (Pipeline.launchCred O₀ c : sProp 𝕄) ⊢ credits c := by
  have h : (Pipeline.launchCred O₀ c : sProp 𝕄) ⊢ bigSep Finset.univ fun j : Cell => cred (tallyAt (kcell (c, j)) () (due j)) := by
    unfold Pipeline.launchCred
    refine (bigSep_subset (Finset.subset_univ (Finset.univ.map ⟨csem, csem_injective⟩))).trans ?_
    rw [bigSep_map]
    exact bigSep_mono fun j _ => Entails.of_eq (congrArg cred (launch_cell c j))
  refine h.trans ?_
  rw [bigSep_cells]
  unfold credits
  iintro ⟨HB, -, HR⟩
  isplitl [HB]; · iexact HB
  iexact HR

/-! ## The run -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    isplitl [Hc]; · iexact Hc
    iexact Hlev
  · iempintro

/-- What the body starts from, with the scratch buffers, is the first grid point's invariant. -/
theorem entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- The last invariant returns every semaphore at zero and the scratch buffers. -/
theorem exit_ (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (Entails.of_eq (zeros (F := F) c)) $$ Hz
  icases Hz with ⟨HB, HS⟩
  isplitl [HB]; · iexact HB
  isplitl [HS]; · iexact HS
  iexact Hr

/-- The staging semaphores may be waited for. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-- What a device's array of window `w` holds after the run. -/
def finalA (c : Dev nD) (w : Fin cfg0.W) : Buf (Elt F) ((cfg0.win w).arr.view.loc (c : Thread nD τ)) := (dats m ρ 0 c).arrAt w cfg0.N

/-- Every device's arrays hold that. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory whose counters are zero, for any arithmetic, every run of the eight devices ends with the arrays as
    computed and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := entry m ρ) (hout := exit_ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `dy` and of the weights are what they were. -/
theorem finalA_x (c : Dev nD) : finalA m ρ c (0 : Fin 3) = m ((c : Thread nD τ).loc main_arg0) :=
  (dats (F := F) m ρ 0 c).arrAt_in (0 : Fin 3) rfl _
/-- The block of the weights after the run is the one before it. -/
theorem finalA_w (c : Dev nD) : finalA m ρ c (1 : Fin 3) = m ((c : Thread nD τ).loc main_arg1) :=
  (dats (F := F) m ρ 0 c).arrAt_in (1 : Fin 3) rfl _

end Cert.Exchange

end
-- ==== Proof.Result.lean ====
/-
# What the result array holds

After the run the result array of a device is what its body left in the staged result, and at row `i` and column `j` that
is the device's own part plus its peer's.
-/
module

public import proofs.«01_k».proof.Proof.Product
public import proofs.«01_k».proof.Proof.Run

@[expose] public section

set_option maxRecDepth 16384

noncomputable section

namespace Cert.Exchange

open Cert.KernelIdeal Cert.KernelIdeal.Gen
open Idealize.ShloMosaic hiding ix2
open Idealize.ShloMosaic.TcCoe Idealize.ShloMosaic.ValueIdx Idealize.ShloMosaic.Pipeline

/-- The result array after the run is what the body left. -/
theorem finalA_out {F : FTy → Type} [FloatOps F] (m : (ℓ : Loc nD τ sig) → Buf (Elt F) ℓ) (ρ : Dev nD → PrngReg) (c : Dev nD) :
    finalA m ρ c (2 : Fin 3) = outAt m ρ c := by
  unfold finalA
  refine (dats m ρ 0 c).arrAt_eq_of_after_last (2 : Fin 3) t₀ (by decide +kernel) _ fun j => ?_
  blk_simp
  rfl

variable (m : (ℓ : Loc nD τ sig) → Buf (Elt Ideal) ℓ) (ρ : Dev nD → PrngReg)

/-- The result at row `i` and column `j`. -/
theorem outAt_apply (c : Dev nD) (i j : Fin 1024) : outAt m ρ c (ix2 i j) = half m c i j + half m (peer c) i j := by
  have hk : i.val / 256 < 4 := by omega
  have hr : rowOf ⟨i.val / 256, hk⟩ ⟨i.val % 256, Nat.mod_lt _ (by decide)⟩ = i := Fin.ext (by show 256 * (i.val / 256) + i.val % 256 = i.val; omega)
  have h := total_apply m ρ c ⟨i.val / 256, hk⟩ ⟨i.val % 256, Nat.mod_lt _ (by decide)⟩ j
  rw [hr] at h
  exact (congrArg (total m ρ c ⟨i.val / 256, hk⟩) (funext fun a => by fin_cases a <;> rfl)).trans h

end Cert.Exchange

end
-- ==== Proof.Reference.lean ====
/-
# What the reference computes

At row `i` and column `j` the reference is the sum over all 8192 columns of `dy` and the weights.
-/
module

public import proofs.«01_k».proof.Proof.Gen.ReferenceIdeal
public import Idealize.ShloMosaic.Lib.StackMember
public import Idealize.ShloMosaic.Lib.Pipeline.ValueKit
public import Idealize.ShloMosaic.Lib.ValueLayout

@[expose] public section

set_option maxRecDepth 16384

noncomputable section

namespace Cert.Exchange

open Idealize.ShloMosaic hiding ix2
open Idealize.ShloMosaic.ValueIdx
open Cert.ReferenceIdeal Cert.ReferenceIdeal.Gen
open scoped BigOperators

/-- The reference's result of the whole arrays. -/
def refOut (A B : FVec Ideal S1024x8192 .bf16) : FVec Ideal S1024x1024 .f32 :=
  Host.dotGeneral dot_S1024x8192_S8192x1024_S1024x1024_1_0_0_1_n_n none (extf .f32 A bitsLt_bf16_f32)
    (transpose S8192x1024 [1, 0] (extf .f32 B bitsLt_bf16_f32) transposes_S1024x8192_S8192x1024_1_0)

/-- That result at row `i` and column `j`. -/
theorem refOut_apply (A B : FVec Ideal S1024x8192 .bf16) (i j : Fin 1024) :
    (refOut A B (ix2 i j) : EReal) = ∑ q : Fin 8192, (A (ix2 i q) : EReal) * (B (ix2 j q) : EReal) := by
  unfold refOut
  refine (StackMember.dotGeneral_plain_apply (m := 1024) (k := 8192) (n := 1024) none _ _ i j).trans (Finset.sum_congr rfl fun q _ => ?_)
  exact congrArg ((A (ix2 i q) : EReal) * ·) (transpose_ix2_apply (a := 1024) (b := 8192) _ _ q j)

end Cert.Exchange

end
-- ==== Proof.Equation.lean ====
/-
# The equation

The two devices of a pair hold the two halves of the columns, so the two parts they add make up the reference's sum, on
whichever of the two it is added.
-/
module

public import proofs.«01_k».proof.Proof.Result
public import proofs.«01_k».proof.Proof.Reference
public import Idealize.ShloMosaic.Lib.Layout

@[expose] public section

set_option maxRecDepth 16384

noncomputable section

namespace Cert.Exchange

open Cert.KernelIdeal Cert.KernelIdeal.Gen
open Idealize.ShloMosaic hiding ix2
open Idealize.ShloMosaic.TcCoe Idealize.ShloMosaic.ValueIdx
open scoped BigOperators

/-- Column `q` of half `b` of the columns. -/
def colOf (b : Fin 2) (q : Fin 4096) : Fin 8192 := ⟨4096 * b.val + q.val, by omega⟩

/-- Which half of the columns device `c` holds. -/
def side (c : Dev nD) : Fin 2 := ⟨c.val % 2, Nat.mod_lt _ (by decide)⟩

/-- A device's peer holds the other half. -/
theorem side_peer (c : Dev nD) : side (peer c) = 1 - side c := by revert c; decide

/-- The block a device holds of an array cut along its columns over the mesh's last axis. -/
theorem block_apply (A : FVec Ideal ⟨2, ![1024, 8192]⟩ .bf16) (c : Dev nD) (i : Fin 1024) (q : Fin 4096) :
    (Layout.blockN ⟨2, ![1024, 4096]⟩ ⟨2, ![1024, 8192]⟩ (Layout.meshBlock [2, 2, 2] ![[], [2]] c) A :
        FVec Ideal ⟨2, ![1024, 4096]⟩ .bf16) (ix2 i q)
      = A (ix2 i (colOf (side c) q)) := by
  refine (Layout.blockN_apply _ A _ _).trans (congrArg A (funext fun d => ?_))
  fin_cases d
  · exact Fin.ext (by show 0 * 1024 + i.val = i.val; omega)
  · exact Fin.ext (by show (c.val / 1 % 2 * 1 + 0) * 4096 + q.val = 4096 * (c.val % 2) + q.val; omega)

/-- The part of the reference's sum over one half of the columns. -/
def part (A B : FVec Ideal ⟨2, ![1024, 8192]⟩ .bf16) (b : Fin 2) (i j : Fin 1024) : EReal :=
  ∑ q : Fin 4096, A (ix2 i (colOf b q)) * B (ix2 j (colOf b q))

/-- The reference's sum is its two parts. -/
theorem refOut_parts (A B : FVec Ideal ⟨2, ![1024, 8192]⟩ .bf16) (i j : Fin 1024) :
    (refOut A B (ix2 i j) : EReal) = part A B 0 i j + part A B 1 i j := by
  refine (refOut_apply A B i j).trans ((Fin.sum_univ_add (a := 4096) (b := 4096) fun q : Fin 8192 => A (ix2 i q) * B (ix2 j q)).trans ?_)
  unfold part
  exact congrArg₂ (· + ·)
    (Finset.sum_congr rfl fun q _ => by rw [show Fin.castAdd 4096 q = colOf 0 q from Fin.ext (by show q.val = 4096 * 0 + q.val; omega)])
    (Finset.sum_congr rfl fun q _ => by rw [show Fin.natAdd 4096 q = colOf 1 q from rfl])

/-- The two parts in either order. -/
theorem parts_of_sides (A B : FVec Ideal ⟨2, ![1024, 8192]⟩ .bf16) (b : Fin 2) (i j : Fin 1024) :
    part A B b i j + part A B (1 - b) i j = part A B 0 i j + part A B 1 i j := by
  fin_cases b
  · rfl
  · exact add_comm _ _

variable (m : (ℓ : Loc nD τ sig) → Buf (Elt Ideal) ℓ) (ρ : Dev nD → PrngReg)

/-- If every device holds its blocks of `A` and `B`, every device's result is the reference's. -/
theorem outAt_eq_refOut (A B : FVec Ideal ⟨2, ![1024, 8192]⟩ .bf16)
    (hA : ∀ c i q, dyAt m c (ix2 i q) = A (ix2 i (colOf (side c) q)))
    (hB : ∀ c i q, wAt m c (ix2 i q) = B (ix2 i (colOf (side c) q))) (c : Dev nD) :
    outAt m ρ c = refOut A B := by
  have hp : ∀ c i j, half m c i j = part A B (side c) i j := fun c i j =>
    Finset.sum_congr rfl fun q _ => by rw [hA, hB]
  funext x
  obtain ⟨i, j, rfl⟩ : ∃ i j : Fin 1024, x = ix2 i j := ⟨_, _, ValueIdx.eq_ix2 x⟩
  refine (outAt_apply m ρ c i j).trans (Eq.trans ?_ (refOut_parts A B i j).symm)
  rw [hp, hp, side_peer]
  exact parts_of_sides A B (side c) i j

end Cert.Exchange

end
-- ==== Proof.lean ====
/-
# The five claims

The kernel and its idealization run, leave their arguments and return every counter to zero; so does the reference; the
idealization rewrites nothing; and over the extended reals every device's result is the reference's.
-/
module

public import proofs.«01_k».proof.Proof.Gen.ReferenceIdeal.Run
public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Exchange

/-- For any arithmetic the run leaves the arguments as they were and every counter at zero. -/
theorem leaves {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := F) m ρ)

/-- The kernel and its idealization have one table of bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- and so one table of bodies and pipelines. -/
theorem tables_eq {F : FTy → Type} [FloatOps F] : Cert.Kernel.defs (F := F) = Cert.KernelIdeal.defs (F := F) :=
  congrArg (Pipeline.defs (Cert.Kernel.pcfgs (F := F))) bodies_eq

/-- The kernel runs, leaves its arguments as they were, and ends with every counter at zero. -/
theorem frame_kernel : Cert.quiescent_Kernel := fun m ρ _ => by
  rw [tables_eq]
  exact leaves (F := Bits) m ρ

/-- So does its idealization. -/
theorem frame_ideal : Cert.quiescent_KernelIdeal := fun m ρ _ => leaves (F := Ideal) m ρ

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From matching arguments every device's result is the reference's. -/
theorem same_result : Cert.algebraic_KernelIdeal_ReferenceIdeal := fun m ρ m' ρ' _ hm => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c (0 : Fin 3)).trans (finalA_x m ρ c),
      (h.1 c (1 : Fin 3)).trans (finalA_w m ρ c)⟩) (run_main (F := Ideal) m ρ)
    refine ((h.1 c (2 : Fin 3)).trans (finalA_out m ρ c)).trans (outAt_eq_refOut m ρ _ _ (fun d i q => ?_) (fun d i q => ?_) c)
    · exact (congrFun (hm d).1 _).trans (block_apply _ d i q)
    · exact (congrFun (hm d).2 _).trans (block_apply _ d i q)
  · exact (θ_run Cert.ReferenceIdeal.defs _ _).mono (fun _ h => h 0) (Cert.ReferenceIdeal.Value.run (F := Ideal) m' ρ')

/-- All five claims, with the programs' own facts. -/
theorem claim : Cert.Claim := ⟨Cert.Kernel.Gen.facts, Cert.KernelIdeal.Gen.facts, Cert.ReferenceIdeal.Gen.facts,
  frame_kernel, frame_ideal, frame_reference, trivial, same_result⟩

end Cert.Proof

end
